-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2_beta1" .f32 0xBE1BA6B3#32 (((Real.log (9 / 10)) * (Real.log 2)⁻¹ : ℝ) : EReal)
  ∧ IdealRules.named_const.Statement Cert.KernelIdeal.κ "log2_beta2" .f32 0xBABD3108#32 (((Real.log (999 / 1000)) * (Real.log 2)⁻¹ : ℝ) : EReal)
  ∧ IdealRules.named_const.Statement Cert.KernelIdeal.κ "neg_lr" .f32 0xBA83126F#32 ((-1 / 1000 : ℝ) : EReal)
  ∧ IdealRules.named_const.Statement Cert.KernelIdeal.κ "neg_lr_wd" .f32 0xB727C5AC#32 ((-1 / 100000 : ℝ) : EReal)
  ∧ IdealRules.named_const.Statement Cert.KernelIdeal.κ "inv_127" .f32 0x3C010204#32 ((1 / 127 : ℝ) : EReal)

def algebraic_KernelIdeal_ReferenceIdeal_on_well_posed [hKernelIdeal : Cert.KernelIdeal.Facts] [hReferenceIdeal : Cert.ReferenceIdeal.Facts] [hOn_well_posed : Cert.On_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v1_0) i = v0 c i)
          ∧ (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_1) i = v1 c i)
          ∧ (∀ i : (⟨2, ![10240, 16]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_2) i = v2 c i)
          ∧ (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v1_3) i = v3 c i)
          ∧ (∀ i : (⟨2, ![10240, 16]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1_0) i = v0 c i)
          ∧ (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v1_1) i = v1 c i)
          ∧ (∀ i : (⟨2, ![10240, 16]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v1_2) i = v2 c i)
          ∧ (∀ i : (⟨2, ![10240, 2048]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v1_3) i = v3 c i)
          ∧ (∀ i : (⟨2, ![10240, 16]⟩ : Shape).Idx, (Cert.On_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v1_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_well_posed : Cert.On_well_posed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_well_posed (hKernelIdeal := hKernelIdeal) (hReferenceIdeal := hReferenceIdeal) (hOn_well_posed := hOn_well_posed)
-- ==== On_well_posed.lean ====
abbrev S10240x2048 : Shape := ⟨2, ![10240, 2048]⟩
abbrev S10240x16 : Shape := ⟨2, ![10240, 16]⟩
abbrev S_ : Shape := ⟨0, ![]⟩
abbrev S10240x16x128 : Shape := ⟨3, ![10240, 16, 128]⟩
abbrev S10240x16x1 : Shape := ⟨3, ![10240, 16, 1]⟩

class Facts : Prop where
  natLt_8_32 : 8 < 32
  shapeCasts_S10240x2048_S10240x16x128 : S10240x2048.ShapeCasts S10240x16x128
  bcast_S10240x16_S10240x16x1_0_1 : S10240x16.BroadcastsInDim S10240x16x1 (![0, 1] : Fin 2 → Fin S10240x16x1.rank)
  bcast_S10240x16x1_S10240x16x128_0_1_2 : S10240x16x1.BroadcastsInDim S10240x16x128 (![0, 1, 2] : Fin 3 → Fin S10240x16x128.rank)
  bitsLt_bf16_f32 : FTy.bits .bf16 < FTy.bits .f32
  bcast_S_S10240x16x128 : S_.BroadcastsInDim S10240x16x128 (![] : Fin 0 → Fin S10240x16x128.rank)
  bcast_S_S10240x2048 : S_.BroadcastsInDim S10240x2048 (![] : Fin 0 → Fin S10240x2048.rank)
  bcast_S_S10240x16 : S_.BroadcastsInDim S10240x16 (![] : Fin 0 → Fin S10240x16.rank)
  shapeCasts_S10240x16x128_S10240x2048 : S10240x16x128.ShapeCasts S10240x2048

variable [Facts]

def fn_part2 {F : FTy → Type} [FloatOps F] (main_arg6 : IVec S_ 32) (main_v36 : IVec S10240x2048 1) (main_v37 : IVec S10240x16 1) (main_v38 : IVec S10240x16x128 1) : IVec S10240x2048 1 × IVec S10240x2048 1 × IVec S10240x16 1 × IVec S10240x2048 1 × IVec S10240x16 1 :=
  let main_v39 : IVec S10240x2048 1 := shapeCast S10240x2048 main_v38 shapeCasts_S10240x16x128_S10240x2048
  let main_c_7 : IVec S_ 32 := constantI S_ 32 1#32
  let main_v40 : IVec S_ 1 := cmpi .sge main_arg6 main_c_7
  let main_v41 : IVec S10240x2048 1 := broadcastInDim S10240x2048 ![] bcast_S_S10240x2048 main_v40
  let main_v42 : IVec S10240x2048 1 := andi main_v39 main_v41
  (main_v42, main_v36, main_v37, main_v36, main_v37)

def fn_part1 {F : FTy → Type} [FloatOps F] (main_arg0 : FVec F S10240x2048 .f32) (main_arg6 : IVec S_ 32) (main_v5 : FVec F S10240x16x128 .f32) (main_v19 : FVec F S10240x16x128 .f32) (main_v20 : FVec F S10240x16x128 .f32) : IVec S10240x2048 1 × IVec S10240x2048 1 × IVec S10240x16 1 × IVec S10240x2048 1 × IVec S10240x16 1 :=
  let main_v21 : IVec S10240x16x128 1 := cmpf .oeq main_v19 main_v20
  let main_cst_2 : FVec F S_ .f32 := constant S_ .f32 0x02081CEA#32
  let main_v22 : FVec F S10240x16x128 .f32 := broadcastInDim S10240x16x128 ![] bcast_S_S10240x16x128 main_cst_2
  let main_v23 : IVec S10240x16x128 1 := cmpf .oge main_v19 main_v22
  let main_cst_3 : FVec F S_ .f32 := constant S_ .f32 0x7F800000#32
  let main_v24 : FVec F S10240x16x128 .f32 := broadcastInDim S10240x16x128 ![] bcast_S_S10240x16x128 main_cst_3
  let main_v25 : IVec S10240x16x128 1 := cmpf .olt main_v19 main_v24
  let main_v26 : IVec S10240x16x128 1 := andi main_v23 main_v25
  let main_v27 : IVec S10240x16x128 1 := ori main_v21 main_v26
  let main_v28 : FVec F S10240x16x128 .f32 := shapeCast S10240x16x128 main_arg0 shapeCasts_S10240x2048_S10240x16x128
  let main_v29 : FVec F S10240x16x128 .f32 := Host.absf main_v28
  let main_cst_4 : FVec F S_ .f32 := constant S_ .f32 0x7F800000#32
  let main_v30 : FVec F S10240x16x128 .f32 := broadcastInDim S10240x16x128 ![] bcast_S_S10240x16x128 main_cst_4
  let main_v31 : IVec S10240x16x128 1 := cmpf .olt main_v29 main_v30
  let main_v32 : FVec F S10240x16x128 .f32 := Host.absf main_v5
  let main_cst_5 : FVec F S_ .f32 := constant S_ .f32 0x7F800000#32
  let main_v33 : FVec F S10240x16x128 .f32 := broadcastInDim S10240x16x128 ![] bcast_S_S10240x16x128 main_cst_5
  let main_v34 : IVec S10240x16x128 1 := cmpf .olt main_v32 main_v33
  let main_v35 : IVec S10240x16x128 1 := ori main_v31 main_v34
  let main_c : IVec S_ 1 := constantI S_ 1 1#1
  let main_v36 : IVec S10240x2048 1 := broadcastInDim S10240x2048 ![] bcast_S_S10240x2048 main_c
  let main_c_6 : IVec S_ 1 := constantI S_ 1 1#1
  let main_v37 : IVec S10240x16 1 := broadcastInDim S10240x16 ![] bcast_S_S10240x16 main_c_6
  let main_v38 : IVec S10240x16x128 1 := andi main_v27 main_v35
  fn_part2 (F := F) main_arg6 main_v36 main_v37 main_v38

def fn {F : FTy → Type} [FloatOps F] (main_arg0 : FVec F S10240x2048 .f32) (main_arg1 : FVec F S10240x2048 .bf16) (main_arg2 : IVec S10240x2048 8) (main_arg3 : FVec F S10240x16 .f32) (main_arg4 : IVec S10240x2048 8) (main_arg5 : FVec F S10240x16 .f32) (main_arg6 : IVec S_ 32) : IVec S10240x2048 1 × IVec S10240x2048 1 × IVec S10240x16 1 × IVec S10240x2048 1 × IVec S10240x16 1 :=
  let main_v0 : IVec S10240x2048 32 := (extsi 32 · natLt_8_32) main_arg2
  let main_v1 : FVec F S10240x2048 .f32 := sitofp .f32 main_v0
  let main_v2 : FVec F S10240x16x128 .f32 := shapeCast S10240x16x128 main_v1 shapeCasts_S10240x2048_S10240x16x128
  let main_v3 : FVec F S10240x16x1 .f32 := broadcastInDim S10240x16x1 ![0, 1] bcast_S10240x16_S10240x16x1_0_1 main_arg3
  let main_v4 : FVec F S10240x16x128 .f32 := broadcastInDim S10240x16x128 ![0, 1, 2] bcast_S10240x16x1_S10240x16x128_0_1_2 main_v3
  let main_v5 : FVec F S10240x16x128 .f32 := mulf main_v2 main_v4
  let main_v6 : IVec S10240x2048 32 := (extsi 32 · natLt_8_32) main_arg4
  let main_v7 : FVec F S10240x2048 .f32 := sitofp .f32 main_v6
  let main_v8 : FVec F S10240x16x128 .f32 := shapeCast S10240x16x128 main_v7 shapeCasts_S10240x2048_S10240x16x128
  let main_v9 : FVec F S10240x16x1 .f32 := broadcastInDim S10240x16x1 ![0, 1] bcast_S10240x16_S10240x16x1_0_1 main_arg5
  let main_v10 : FVec F S10240x16x128 .f32 := broadcastInDim S10240x16x128 ![0, 1, 2] bcast_S10240x16x1_S10240x16x128_0_1_2 main_v9
  let main_v11 : FVec F S10240x16x128 .f32 := mulf main_v8 main_v10
  let main_v12 : FVec F S10240x2048 .f32 := (extf .f32 · bitsLt_bf16_f32) main_arg1
  let main_v13 : FVec F S10240x16x128 .f32 := shapeCast S10240x16x128 main_v12 shapeCasts_S10240x2048_S10240x16x128
  let main_cst : FVec F S_ .f32 := constant S_ .f32 0x3F7FBE77#32
  let main_v14 : FVec F S10240x16x128 .f32 := broadcastInDim S10240x16x128 ![] bcast_S_S10240x16x128 main_cst
  let main_v15 : FVec F S10240x16x128 .f32 := mulf main_v14 main_v11
  let main_v16 : FVec F S10240x16x128 .f32 := mulf main_v13 main_v13
  let main_cst_0 : FVec F S_ .f32 := constant S_ .f32 0x3A83126F#32
  let main_v17 : FVec F S10240x16x128 .f32 := broadcastInDim S10240x16x128 ![] bcast_S_S10240x16x128 main_cst_0
  let main_v18 : FVec F S10240x16x128 .f32 := mulf main_v17 main_v16
  let main_v19 : FVec F S10240x16x128 .f32 := addf main_v15 main_v18
  let main_cst_1 : FVec F S_ .f32 := constant S_ .f32 0x00000000#32
  let main_v20 : FVec F S10240x16x128 .f32 := broadcastInDim S10240x16x128 ![] bcast_S_S10240x16x128 main_cst_1
  fn_part1 (F := F) main_arg0 main_arg6 main_v5 main_v19 main_v20
-- ==== Kernel.lean ====
abbrev S10240x2048 : Shape := ⟨2, ![10240, 2048]⟩
abbrev S10240x16 : Shape := ⟨2, ![10240, 16]⟩
abbrev S_ : Shape := ⟨0, ![]⟩
abbrev S1 : Shape := ⟨1, ![1]⟩
abbrev S256x2048 : Shape := ⟨2, ![256, 2048]⟩
abbrev S256x16 : Shape := ⟨2, ![256, 16]⟩
abbrev S8x128 : Shape := ⟨2, ![8, 128]⟩
abbrev S1x128 : Shape := ⟨2, ![1, 128]⟩
abbrev S32x16 : Shape := ⟨2, ![32, 16]⟩
abbrev S32x128 : Shape := ⟨2, ![32, 128]⟩
abbrev S32x1 : Shape := ⟨2, ![32, 1]⟩
abbrev S32 : Shape := ⟨1, ![32]⟩

abbrev nBuf : Space → Nat
  | .hbm => 13
  | .vmem => 22
  | .smem => 1
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S10240x2048, .i8⟩
  | .hbm, ⟨3, _⟩ => ⟨S10240x16, .f32⟩
  | .hbm, ⟨4, _⟩ => ⟨S10240x2048, .i8⟩
  | .hbm, ⟨5, _⟩ => ⟨S10240x16, .f32⟩
  | .hbm, ⟨6, _⟩ => ⟨S_, .i32⟩
  | .hbm, ⟨7, _⟩ => ⟨S1, .i32⟩
  | .hbm, ⟨8, _⟩ => ⟨S10240x2048, .f32⟩
  | .hbm, ⟨9, _⟩ => ⟨S10240x2048, .i8⟩
  | .hbm, ⟨10, _⟩ => ⟨S10240x16, .f32⟩
  | .hbm, ⟨11, _⟩ => ⟨S10240x2048, .i8⟩
  | .hbm, ⟨12, _⟩ => ⟨S10240x16, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .i8⟩
  | .local _ .vmem, ⟨5, _⟩ => ⟨S256x2048, .i8⟩
  | .local _ .vmem, ⟨6, _⟩ => ⟨S256x16, .f32⟩
  | .local _ .vmem, ⟨7, _⟩ => ⟨S256x16, .f32⟩
  | .local _ .vmem, ⟨8, _⟩ => ⟨S256x2048, .i8⟩
  | .local _ .vmem, ⟨9, _⟩ => ⟨S256x2048, .i8⟩
  | .local _ .vmem, ⟨10, _⟩ => ⟨S256x16, .f32⟩
  | .local _ .vmem, ⟨11, _⟩ => ⟨S256x16, .f32⟩
  | .local _ .vmem, ⟨12, _⟩ => ⟨S256x2048, .f32⟩
  | .local _ .vmem, ⟨13, _⟩ => ⟨S256x2048, .f32⟩
  | .local _ .vmem, ⟨14, _⟩ => ⟨S256x2048, .i8⟩
  | .local _ .vmem, ⟨15, _⟩ => ⟨S256x2048, .i8⟩
  | .local _ .vmem, ⟨16, _⟩ => ⟨S256x16, .f32⟩
  | .local _ .vmem, ⟨17, _⟩ => ⟨S256x16, .f32⟩
  | .local _ .vmem, ⟨18, _⟩ => ⟨S256x2048, .i8⟩
  | .local _ .vmem, ⟨19, _⟩ => ⟨S256x2048, .i8⟩
  | .local _ .vmem, ⟨20, _⟩ => ⟨S256x16, .f32⟩
  | .local _ .vmem, ⟨21, _⟩ => ⟨S256x16, .f32⟩
  | .local _ .smem, ⟨0, _⟩ => ⟨S1, .i32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v24 : Index := Scalar.indexCast v23
  let c0_6 : Index := 0#32
  ![v24.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v30 : Index := Scalar.indexCast v23
  let c0_10 : Index := 0#32
  ![v30.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v120 : Index := Scalar.indexCast v23
  let c128 : Index := 128#32
  ![v120.toNat, 128]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v210 : Index := Scalar.indexCast v23
  let c256 : Index := 256#32
  ![v210.toNat, 256]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v300 : Index := Scalar.indexCast v23
  let c384 : Index := 384#32
  ![v300.toNat, 384]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v390 : Index := Scalar.indexCast v23
  let c512 : Index := 512#32
  ![v390.toNat, 512]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v480 : Index := Scalar.indexCast v23
  let c640 : Index := 640#32
  ![v480.toNat, 640]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v570 : Index := Scalar.indexCast v23
  let c768 : Index := 768#32
  ![v570.toNat, 768]
def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v660 : Index := Scalar.indexCast v23
  let c896 : Index := 896#32
  ![v660.toNat, 896]
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v750 : Index := Scalar.indexCast v23
  let c1024 : Index := 1024#32
  ![v750.toNat, 1024]
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v840 : Index := Scalar.indexCast v23
  let c1152 : Index := 1152#32
  ![v840.toNat, 1152]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v930 : Index := Scalar.indexCast v23
  let c1280 : Index := 1280#32
  ![v930.toNat, 1280]
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v1020 : Index := Scalar.indexCast v23
  let c1408 : Index := 1408#32
  ![v1020.toNat, 1408]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v1110 : Index := Scalar.indexCast v23
  let c1536 : Index := 1536#32
  ![v1110.toNat, 1536]
def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v1200 : Index := Scalar.indexCast v23
  let c1664 : Index := 1664#32
  ![v1200.toNat, 1664]
def k0_off16 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v1290 : Index := Scalar.indexCast v23
  let c1792 : Index := 1792#32
  ![v1290.toNat, 1792]
def k0_off17 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v23 : BitVec 32 := Scalar.muli arg13 c32_i32
  let v1380 : Index := Scalar.indexCast v23
  let c1920 : Index := 1920#32
  ![v1380.toNat, 1920]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_127" => some ((1 / 127 : ℝ) : EReal)
  | "log2_beta1" => some (((Real.log (9 / 10)) * (Real.log 2)⁻¹ : ℝ) : EReal)
  | "log2_beta2" => some (((Real.log (999 / 1000)) * (Real.log 2)⁻¹ : ℝ) : EReal)
  | "neg_lr" => some ((-1 / 1000 : ℝ) : EReal)
  | "neg_lr_wd" => some ((-1 / 100000 : ℝ) : EReal)
  | _ => none
-- ==== ReferenceIdeal.lean ====
abbrev S10240x2048 : Shape := ⟨2, ![10240, 2048]⟩
abbrev S10240x16 : Shape := ⟨2, ![10240, 16]⟩
abbrev S_ : Shape := ⟨0, ![]⟩
abbrev S1 : Shape := ⟨1, ![1]⟩
abbrev S10240x16x128 : Shape := ⟨3, ![10240, 16, 128]⟩
abbrev S10240x16x1 : Shape := ⟨3, ![10240, 16, 1]⟩

abbrev nBuf : Space → Nat
  | .hbm => 13
  | .vmem => 11
  | .smem => 1
  | _ => 0

abbrev bufTy : (tb : Table) → Fin (tcTables nBuf tb) → BufTy
  | .hbm, ⟨0, _⟩ => ⟨S10240x2048, .f32⟩
  | .hbm, ⟨1, _⟩ => ⟨S10240x2048, .bf16⟩
  | .hbm, ⟨2, _⟩ => ⟨S10240x2048, .i8⟩
  | .hbm, ⟨3, _⟩ => ⟨S10240x16, .f32⟩
  | .hbm, ⟨4, _⟩ => ⟨S10240x2048, .i8⟩
  | .hbm, ⟨5, _⟩ => ⟨S10240x16, .f32⟩
  | .hbm, ⟨6, _⟩ => ⟨S_, .i32⟩
  | .hbm, ⟨7, _⟩ => ⟨S1, .i32⟩
  | .hbm, ⟨8, _⟩ => ⟨S10240x2048, .f32⟩
  | .hbm, ⟨9, _⟩ => ⟨S10240x2048, .i8⟩
  | .hbm, ⟨10, _⟩ => ⟨S10240x16, .f32⟩
  | .hbm, ⟨11, _⟩ => ⟨S10240x2048, .i8⟩
  | .hbm, ⟨12, _⟩ => ⟨S10240x16, .f32⟩
  | .local _ .vmem, ⟨0, _⟩ => ⟨S10240x2048, .f32⟩
  | .local _ .vmem, ⟨1, _⟩ => ⟨S10240x2048, .bf16⟩
  | .local _ .vmem, ⟨2, _⟩ => ⟨S10240x2048, .i8⟩
  | .local _ .vmem, ⟨3, _⟩ => ⟨S10240x16, .f32⟩
  | .local _ .vmem, ⟨4, _⟩ => ⟨S10240x2048, .i8⟩
  | .local _ .vmem, ⟨5, _⟩ => ⟨S10240x16, .f32⟩
  | .local _ .vmem, ⟨6, _⟩ => ⟨S10240x2048, .f32⟩
  | .local _ .vmem, ⟨7, _⟩ => ⟨S10240x2048, .i8⟩
  | .local _ .vmem, ⟨8, _⟩ => ⟨S10240x16, .f32⟩
  | .local _ .vmem, ⟨9, _⟩ => ⟨S10240x2048, .i8⟩
  | .local _ .vmem, ⟨10, _⟩ => ⟨S10240x16, .f32⟩
  | .local _ .smem, ⟨0, _⟩ => ⟨S1, .i32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "neg_lr" => some ((-1 / 1000 : ℝ) : EReal)
  | "wd" => some ((1 / 100 : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10240x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10240x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10240x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10240x2048 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S10240x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Model.lean ====
/- The update one optimizer step makes, element by element and block by block, over the extended reals. Both programs are
   shown to compute the functions named here; nothing in this module mentions either program. -/
module

public import Idealize.ShloMosaic.PureOps.Ideal
public import Idealize.ShloMosaic.Lib.Pointwise

@[expose] public section

noncomputable section

namespace Cert.Adam

open Idealize.ShloMosaic

/-- The extended real an f32 literal stands for. -/
abbrev lit (w : BitVec 32) : EReal := Ideal.ofBits .f32 w

/-- The integer a code or a counter holds, as an extended real. -/
abbrev int {w : Nat} (c : BitVec w) : EReal := ((c.toInt : ℝ) : EReal)

/-- The new first moment at one element: `β1 · (code · scale) + (1 − β1) · g`. -/
def firstMoment (code : BitVec 8) (scale g : EReal) : EReal :=
  lit 0x3F666666#32 * (int code * scale) + lit 0x3DCCCCCD#32 * g

/-- The new second moment at one element: `β2 · (code · scale) + (1 − β2) · g²`. -/
def secondMoment (code : BitVec 8) (scale g : EReal) : EReal :=
  lit 0x3F7FBE77#32 * (int code * scale) + lit 0x3A83126F#32 * (g * g)

/-- The largest magnitude in a block of 128 elements. -/
def peak (u : Fin 128 → EReal) : EReal :=
  Finset.univ.fold max (lit 0xFF800000#32) fun k => max (u k) (-u k)

/-- A block's new scale: its largest magnitude over 127, or 1 for a block of zeros. -/
def blockScale (u : Fin 128 → EReal) : EReal :=
  if peak u = 0 then 1 else peak u * ((1 / 127 : ℝ) : EReal)

/-- The new code of an element `x` under the scale `s`: `x / s` rounded to the nearest integer (ties to even) and
    clamped to [-127, 127]. -/
def quantise (x s : EReal) : BitVec 8 :=
  Ideal.fptosi 8 (min (lit 0x42FE0000#32)
    (max (lit 0xC2FE0000#32) (Ideal.liftRound Ideal.roundHalfEven (Ideal.div x s))))

/-! ## The update of a parameter, as each program writes it -/

/-- `√(1 − β2^n)`, the power through a base-2 exponential. -/
def kRoot (n : BitVec 32) : EReal :=
  Ideal.sqrt (1 - Ideal.exp2 (int n * ((Real.log (999 / 1000) * (Real.log 2)⁻¹ : ℝ) : EReal)))

/-- The kernel's factor of the first moment: `-lr · √(1 − β2^n) / (1 − β1^n)`. -/
def kStep (n : BitVec 32) : EReal :=
  Ideal.div (((-1 / 1000 : ℝ) : EReal) * kRoot n)
    (1 - Ideal.exp2 (int n * ((Real.log (9 / 10) * (Real.log 2)⁻¹ : ℝ) : EReal)))

/-- The kernel's denominator offset: `ε · √(1 − β2^n)`. -/
def kEps (n : BitVec 32) : EReal := lit 0x322BCC77#32 * kRoot n

/-- The kernel's update of a parameter `p` with new moments `m`, `v`, both bias corrections folded into the step:
    `kStep · m / (v · rsqrt (max v 1e-37) + kEps) + (-lr · wd) · p`. -/
def kDelta (n : BitVec 32) (p m v : EReal) : EReal :=
  Ideal.div (kStep n * m) (v * Ideal.rsqrt (max v (lit 0x02081CEA#32)) + kEps n)
    + ((-1 / 100000 : ℝ) : EReal) * p

/-- The reference's update: `-lr · ((m / (1 − β1^n)) / (√(v / (1 − β2^n)) + ε) + wd · p)`. -/
def rDelta (n : BitVec 32) (p m v : EReal) : EReal :=
  ((-1 / 1000 : ℝ) : EReal)
    * (Ideal.div
        (Ideal.div m (1 - Ideal.pow (Ideal.div (lit 0x41100000#32) (lit 0x41200000#32)) (int n)))
        (Ideal.sqrt (Ideal.div v
            (1 - Ideal.pow (Ideal.div (lit 0x4479C000#32) (lit 0x447A0000#32)) (int n)))
          + lit 0x322BCC77#32)
      + ((1 / 100 : ℝ) : EReal) * p)

/-! ## Arrays of `R` rows of 16 blocks of 128 elements -/

/-- The shape of an array of elements: `R` rows of 2048. -/
abbrev Elts (R : Nat) : Shape := ⟨2, ![R, 2048]⟩

/-- The shape of an array of block scales: `R` rows of 16. -/
abbrev Blks (R : Nat) : Shape := ⟨2, ![R, 16]⟩

variable {R : Nat}

/-- The block an element lies in. -/
abbrev blockOf (y : (Elts R).Idx) : (Blks R).Idx :=
  ix2 (y 0) (⟨(y 1).val / 128, Nat.div_lt_of_lt_mul (by have h := ValueIdx.idx2_lt1 y; omega)⟩ : Fin 16)

/-- Element `l` of a block. -/
abbrev elemOf (z : (Blks R).Idx) (l : Fin 128) : (Elts R).Idx :=
  ix2 (z 0) (⟨128 * (z 1).val + l.val, by have h := ValueIdx.idx2_lt1 z; have := l.isLt; omega⟩ : Fin 2048)

/-- The array of new first moments. -/
def firstArr (code : (Elts R).Idx → BitVec 8) (scale : (Blks R).Idx → EReal) (g : (Elts R).Idx → EReal) :
    (Elts R).Idx → EReal := fun y => firstMoment (code y) (scale (blockOf y)) (g y)

/-- The array of new second moments. -/
def secondArr (code : (Elts R).Idx → BitVec 8) (scale : (Blks R).Idx → EReal) (g : (Elts R).Idx → EReal) :
    (Elts R).Idx → EReal := fun y => secondMoment (code y) (scale (blockOf y)) (g y)

/-- The array of new block scales of an array of moments. -/
def scaleArr (u : (Elts R).Idx → EReal) : (Blks R).Idx → EReal := fun z => blockScale fun l => u (elemOf z l)

/-- The array of new codes of an array of moments. -/
def codeArr (u : (Elts R).Idx → EReal) : (Elts R).Idx → BitVec 8 := fun y => quantise (u y) (scaleArr u (blockOf y))

/-- The array of parameter updates, as the kernel writes them. -/
def kDeltaArr (n : BitVec 32) (p m v : (Elts R).Idx → EReal) : (Elts R).Idx → EReal := fun y => kDelta n (p y) (m y) (v y)

/-- The array of parameter updates, as the reference writes them. -/
def rDeltaArr (n : BitVec 32) (p m v : (Elts R).Idx → EReal) : (Elts R).Idx → EReal := fun y => rDelta n (p y) (m y) (v y)

/-! ## Rows are independent -/

/-- Element index `y` of an array of fewer rows, its row read at `ρ`. -/
abbrev rowElt {R' : Nat} (ρ : Fin R' → Fin R) (y : (Elts R').Idx) : (Elts R).Idx := ix2 (ρ (y 0)) (y 1)

/-- Block index `z` of an array of fewer rows, its row read at `ρ`. -/
abbrev rowBlk {R' : Nat} (ρ : Fin R' → Fin R) (z : (Blks R').Idx) : (Blks R).Idx := ix2 (ρ (z 0)) (z 1)

variable {R' : Nat} (ρ : Fin R' → Fin R)

/-- First moments of some rows are those rows of the first moments. -/
theorem firstArr_rows (code : (Elts R).Idx → BitVec 8) (scale : (Blks R).Idx → EReal) (g : (Elts R).Idx → EReal) :
    firstArr (fun y => code (rowElt ρ y)) (fun z => scale (rowBlk ρ z)) (fun y => g (rowElt ρ y))
      = fun y => firstArr code scale g (rowElt ρ y) := rfl

/-- Second moments of some rows are those rows of the second moments. -/
theorem secondArr_rows (code : (Elts R).Idx → BitVec 8) (scale : (Blks R).Idx → EReal) (g : (Elts R).Idx → EReal) :
    secondArr (fun y => code (rowElt ρ y)) (fun z => scale (rowBlk ρ z)) (fun y => g (rowElt ρ y))
      = fun y => secondArr code scale g (rowElt ρ y) := rfl

/-- Scales of some rows are those rows of the scales. -/
theorem scaleArr_rows (u : (Elts R).Idx → EReal) :
    scaleArr (fun y => u (rowElt ρ y)) = fun z => scaleArr u (rowBlk ρ z) := rfl

/-- Codes of some rows are those rows of the codes. -/
theorem codeArr_rows (u : (Elts R).Idx → EReal) :
    codeArr (fun y => u (rowElt ρ y)) = fun y => codeArr u (rowElt ρ y) := rfl

end Cert.Adam

end
-- ==== Proof.Block.lean ====
/- What the kernel computes of one 32-row tile: block column `b` (128 lanes) of the tile, for each of the sixteen. The
   sixteen copies of the text are one function of `b`; what each computes is stated once, at an index. -/
module

public import proofs.«01_k».proof.Proof.Model
public import proofs.«01_k».proof.Proof.Gen.KernelIdeal.Skeleton
public import Idealize.ShloMosaic.Lib.Pointwise

@[expose] public section

set_option maxRecDepth 16384

noncomputable section

namespace Cert.Adam

open Idealize.ShloMosaic
open Cert.KernelIdeal Cert.KernelIdeal.Gen

/-! ## The named constants -/

/-- The kernel's reciprocal of 127 is exact. -/
theorem named_inv_127 : (Named.named (F := Ideal) (φ := .f32) κ "inv_127" 0x3C010204#32 : EReal) = ((1 / 127 : ℝ) : EReal) :=
  IdealRules.named_const.ideal_named_scalar _ _ _ _ rfl

/-- The kernel's `-lr` is exact. -/
theorem named_neg_lr : (Named.named (F := Ideal) (φ := .f32) κ "neg_lr" 0xBA83126F#32 : EReal) = ((-1 / 1000 : ℝ) : EReal) :=
  IdealRules.named_const.ideal_named_scalar _ _ _ _ rfl

/-- The kernel's `-lr · wd` is exact. -/
theorem named_neg_lr_wd : (Named.named (F := Ideal) (φ := .f32) κ "neg_lr_wd" 0xB727C5AC#32 : EReal) = ((-1 / 100000 : ℝ) : EReal) :=
  IdealRules.named_const.ideal_named_scalar _ _ _ _ rfl

/-- The kernel's `log₂ β1` is exact. -/
theorem named_log2_beta1 : (Named.named (F := Ideal) (φ := .f32) κ "log2_beta1" 0xBE1BA6B3#32 : EReal)
    = ((Real.log (9 / 10) * (Real.log 2)⁻¹ : ℝ) : EReal) :=
  IdealRules.named_const.ideal_named_scalar _ _ _ _ rfl

/-- The kernel's `log₂ β2` is exact. -/
theorem named_log2_beta2 : (Named.named (F := Ideal) (φ := .f32) κ "log2_beta2" 0xBABD3108#32 : EReal)
    = ((Real.log (999 / 1000) * (Real.log 2)⁻¹ : ℝ) : EReal) :=
  IdealRules.named_const.ideal_named_scalar _ _ _ _ rfl

/-! ## One block column -/

/-- Column `b` of a 32×16 array is a slice of it. -/
theorem slice_col : ∀ b : Fin 16, S32x16.Slices ![0, b.val] S32x1 := by decide

/-- The new first moments of block column `b`, from its scales, gradients and codes. -/
def firstBlk (b : Fin 16) (sc : Vec Ideal S32x16 .f32) (g : Vec Ideal S32x128 .bf16) (cd : Vec Ideal S32x128 .i8) :
    FVec Ideal S32x128 .f32 :=
  addf (mulf (broadcast S32x128 (Scalar.ofBits .f32 0x3F666666#32))
      (mulf (sitofp .f32 cd) (broadcastTo S32x128 (extractStridedSlice S32x1 ![0, b.val] sc (slice_col b)) broadcasts_S32x1_S32x128)))
    (mulf (broadcast S32x128 (Scalar.ofBits .f32 0x3DCCCCCD#32)) (extf .f32 g bitsLt_bf16_f32))

/-- The new second moments of block column `b`. -/
def secondBlk (b : Fin 16) (sc : Vec Ideal S32x16 .f32) (g : Vec Ideal S32x128 .bf16) (cd : Vec Ideal S32x128 .i8) :
    FVec Ideal S32x128 .f32 :=
  addf (mulf (broadcast S32x128 (Scalar.ofBits .f32 0x3F7FBE77#32))
      (mulf (sitofp .f32 cd) (broadcastTo S32x128 (extractStridedSlice S32x1 ![0, b.val] sc (slice_col b)) broadcasts_S32x1_S32x128)))
    (mulf (broadcast S32x128 (Scalar.ofBits .f32 0x3A83126F#32)) (mulf (extf .f32 g bitsLt_bf16_f32) (extf .f32 g bitsLt_bf16_f32)))

/-- The parameter updates of a block column with new moments `m`, `v`, the bias corrections `st` and `ep`. -/
def deltaBlk (st ep : FVec Ideal S1x128 .f32) (m v : FVec Ideal S32x128 .f32) (p : Vec Ideal S32x128 .f32) :
    FVec Ideal S32x128 .f32 :=
  k0_pay13 (divf (mulf (broadcastTo S32x128 st broadcasts_S1x128_S32x128) m)
    (addf (mulf v (rsqrt (maximumf v (broadcast S32x128 (Scalar.ofBits .f32 0x02081CEA#32)))))
      (broadcastTo S32x128 ep broadcasts_S1x128_S32x128))) p (Named.named κ "neg_lr_wd" 0xB727C5AC#32)

/-- Block column `b`'s scales put in their column of the tile's 32×16 scales. -/
def laneBlk (b : Fin 16) (acc : FVec Ideal S32x16 .f32) (s : FVec Ideal S32x1 .f32) : FVec Ideal S32x16 .f32 :=
  select (cmpi .eq (iota .tc S32x16 32 [1] iota_S32x16_d1_w32) (broadcast S32x16 (BitVec.ofNat 32 b.val)))
    (broadcastTo S32x16 (shapeCast S32x1 s shapeCasts_S32x1_S32x1) broadcasts_S32x1_S32x16) acc

variable (b : Fin 16) (r : Fin 32) (l : Fin 128)

/-- The first moment at row `r`, lane `l` of block column `b`. -/
theorem firstBlk_apply (sc : Vec Ideal S32x16 .f32) (g : Vec Ideal S32x128 .bf16) (cd : Vec Ideal S32x128 .i8) :
    firstBlk b sc g cd (ix2 r l) = firstMoment (cd (ix2 r l)) (sc (ix2 r b)) (g (ix2 r l)) := by
  pointwise [firstBlk]
  rfl

/-- The second moment at row `r`, lane `l` of block column `b`. -/
theorem secondBlk_apply (sc : Vec Ideal S32x16 .f32) (g : Vec Ideal S32x128 .bf16) (cd : Vec Ideal S32x128 .i8) :
    secondBlk b sc g cd (ix2 r l) = secondMoment (cd (ix2 r l)) (sc (ix2 r b)) (g (ix2 r l)) := by
  pointwise [secondBlk]
  rfl

/-- The kernel's step factor, the same in every lane. -/
theorem step_apply (n : BitVec 32) : k0_pay3 (F := Ideal) n (ix2 0 l) = kStep n := by
  pointwise [k0_pay3, k0_pay2, k0_pay1, named_log2_beta1, named_log2_beta2, named_neg_lr]
  rfl

/-- The kernel's denominator offset, the same in every lane. -/
theorem eps_apply (n : BitVec 32) : k0_pay4 (F := Ideal) n (ix2 0 l) = kEps n := by
  pointwise [k0_pay4, k0_pay2, k0_pay1, named_log2_beta2]
  rfl

/-- The parameter update at row `r`, lane `l`. -/
theorem deltaBlk_apply (n : BitVec 32) (m v : FVec Ideal S32x128 .f32) (p : Vec Ideal S32x128 .f32) :
    deltaBlk (k0_pay3 n) (k0_pay4 n) m v p (ix2 r l) = kDelta n (p (ix2 r l)) (m (ix2 r l)) (v (ix2 r l)) := by
  pointwise [deltaBlk, k0_pay13, named_neg_lr_wd]
  rw [step_apply, eps_apply]
  rfl

/-- The new scale of row `r`'s block. -/
theorem scaleBlk_apply (u : FVec Ideal S32x128 .f32) :
    k0_pay14 u (ix2 r 0) = blockScale fun k => u (ix2 r k) := by
  pointwise [k0_pay14, named_inv_127]
  rfl

/-- The new code at row `r`, lane `l`. -/
theorem codeBlk_apply (u : FVec Ideal S32x128 .f32) :
    k0_pay15 u (ix2 r l) = quantise (u (ix2 r l)) (blockScale fun k => u (ix2 r k)) := by
  pointwise [k0_pay15]
  rw [scaleBlk_apply]
  rfl

/-- Putting column `b`'s scales in place changes that column only. -/
theorem laneBlk_apply (c : Fin 16) (acc : FVec Ideal S32x16 .f32) (s : FVec Ideal S32x1 .f32) :
    laneBlk b acc s (ix2 r c) = if c = b then s (ix2 r 0) else acc (ix2 r c) := by
  pointwise [laneBlk]
  have h : (BitVec.ofNat 32 c.val = BitVec.ofNat 32 b.val) ↔ c = b := by
    revert b c; decide
  by_cases hc : c = b
  · subst hc; simp [IntOp.cmpi, Scalar.select]
  · have h' : (BitVec.ofNat 32 c.val == BitVec.ofNat 32 b.val) = false := beq_eq_false_iff_ne.2 (mt h.1 hc)
    simp [IntOp.cmpi, Scalar.select, hc, h']

end Cert.Adam

end
-- ==== Proof.Tile.lean ====
/- One trip of the kernel's loop: what it writes of the five outputs' tiles (32 rows of the 256 of a grid point's block)
   is, at each element, the array the model names of the whole block. -/
module

public import proofs.«01_k».proof.Proof.Block
public import proofs.«01_k».proof.Proof.Gen.KernelIdeal.Loops
public import Idealize.ShloMosaic.Lib.WholeRead
public import Idealize.ShloMosaic.Lib.Pipeline.ValueKit.Tiles

@[expose] public section

set_option maxRecDepth 16384

noncomputable section

namespace Cert.Adam

open Idealize.ShloMosaic Idealize.ShloMosaic.TcCoe Idealize.ShloMosaic.Tactic
open Idealize.SL Idealize.SL.Sem
open Cert.KernelIdeal Cert.KernelIdeal.Gen

/-! ## Places of a tile in its block -/

/-- The loop makes at most eight trips. -/
theorem trip_lt (k : Fin k0_t1_loop.trips) : k.val < 8 := Nat.lt_of_lt_of_le k.isLt k0_t1_abs.2.1

/-- Row `r` of tile `k`, as a row of the block. -/
abbrev tileRow (k : Fin k0_t1_loop.trips) (r : Fin 32) : Fin 256 :=
  ⟨32 * k.val + r.val, by have := trip_lt k; have := r.isLt; omega⟩

/-- Lane `l` of block column `b`, as a lane of the block. -/
abbrev colLane (b : Fin 16) (l : Fin 128) : Fin 2048 :=
  ⟨128 * b.val + l.val, by have := b.isLt; have := l.isLt; omega⟩

variable (k : Fin k0_t1_loop.trips)

/-- Element `(r, l)` of block column `b` of tile `k` is element `(32 k + r, 128 b + l)` of the block. -/
theorem place_elt (b : Fin 16) {off : Fin 2 → Nat} (hoff : off = ![32 * k.val, 128 * b.val])
    (inb : ∀ a, off a + S32x128.size a ≤ S256x2048.size a) (r : Fin 32) (l : Fin 128) :
    (Rect.unit (s := S256x2048) off S32x128.size inb).idx (ix2 r l) = ix2 (tileRow k r) (colLane b l) := by
  subst hoff
  funext a
  apply Fin.ext
  rw [Rect.idx_unit_val]
  match a with
  | ⟨0, _⟩ => rfl
  | ⟨1, _⟩ => rfl

/-- Scale `(r, c)` of tile `k` is scale `(32 k + r, c)` of the block. -/
theorem place_blk {off : Fin 2 → Nat} (hoff : off = ![32 * k.val, 0])
    (inb : ∀ a, off a + S32x16.size a ≤ S256x16.size a) (r : Fin 32) (c : Fin 16) :
    (Rect.unit (s := S256x16) off S32x16.size inb).idx (ix2 r c) = ix2 (tileRow k r) c := by
  subst hoff
  funext a
  apply Fin.ext
  rw [Rect.idx_unit_val]
  match a with
  | ⟨0, _⟩ => rfl
  | ⟨1, _⟩ => exact Nat.zero_add _

/-- The block an element of block column `b` lies in. -/
theorem blockOf_place (ρ : Fin 256) (b : Fin 16) (l : Fin 128) :
    blockOf (R := 256) (ix2 ρ (colLane b l)) = ix2 ρ b := by
  have hb := b.isLt
  have hl := l.isLt
  funext a
  match a with
  | ⟨0, _⟩ => rfl
  | ⟨1, _⟩ => exact Fin.ext (by show (128 * b.val + l.val) / 128 = b.val; omega)

/-! ## The values of one block column -/

section Column

variable (b : Fin 16) {off off1 : Fin 2 → Nat} (hoff : off = ![32 * k.val, 128 * b.val]) (hoff1 : off1 = ![32 * k.val, 0])
  (inb : ∀ a, off a + S32x128.size a ≤ S256x2048.size a) (inb1 : ∀ a, off1 a + S32x16.size a ≤ S256x16.size a)
  (n : BitVec 32) (p : Vec Ideal S256x2048 .f32) (g : Vec Ideal S256x2048 .bf16)
  (cm : Vec Ideal S256x2048 .i8) (sm : Vec Ideal S256x16 .f32) (cv : Vec Ideal S256x2048 .i8) (sv : Vec Ideal S256x16 .f32)

/-- Block column `b` of tile `k` of a block's elements, read through the load's rectangle. -/
abbrev eltTile {α : Type} (inb : ∀ a, off a + S32x128.size a ≤ S256x2048.size a) (x : S256x2048.Idx → α) : S32x128.Idx → α :=
  fun j => x ((Rect.unit (s := S256x2048) off S32x128.size inb).toLoadRect.idx j)

/-- Tile `k` of a block's scales, read through the load's rectangle. -/
abbrev blkTile {α : Type} (inb1 : ∀ a, off1 a + S32x16.size a ≤ S256x16.size a) (x : S256x16.Idx → α) : S32x16.Idx → α :=
  fun j => x ((Rect.unit (s := S256x16) off1 S32x16.size inb1).toLoadRect.idx j)

include hoff hoff1

/-- The first moments of a block column are the block's at its places. -/
theorem first_place (r : Fin 32) (l : Fin 128) :
    firstBlk b (blkTile inb1 sm) (eltTile inb g) (eltTile inb cm) (ix2 r l)
      = firstArr (R := 256) cm sm g (ix2 (tileRow k r) (colLane b l)) := by
  rw [firstBlk_apply]
  show firstMoment (cm ((Rect.unit (s := S256x2048) off S32x128.size inb).idx (ix2 r l))) (sm ((Rect.unit (s := S256x16) off1 S32x16.size inb1).idx (ix2 r b)))
    (g ((Rect.unit (s := S256x2048) off S32x128.size inb).idx (ix2 r l))) = _
  rw [place_elt k b hoff, place_blk k hoff1]
  unfold firstArr
  rw [blockOf_place]

/-- The second moments of a block column are the block's at its places. -/
theorem second_place (r : Fin 32) (l : Fin 128) :
    secondBlk b (blkTile inb1 sv) (eltTile inb g) (eltTile inb cv) (ix2 r l)
      = secondArr (R := 256) cv sv g (ix2 (tileRow k r) (colLane b l)) := by
  rw [secondBlk_apply]
  show secondMoment (cv ((Rect.unit (s := S256x2048) off S32x128.size inb).idx (ix2 r l))) (sv ((Rect.unit (s := S256x16) off1 S32x16.size inb1).idx (ix2 r b)))
    (g ((Rect.unit (s := S256x2048) off S32x128.size inb).idx (ix2 r l))) = _
  rw [place_elt k b hoff, place_blk k hoff1]
  unfold secondArr
  rw [blockOf_place]

/-- The parameter updates of a block column are the block's at its places. -/
theorem delta_place (x : S32x128.Idx) :
    deltaBlk (k0_pay3 n) (k0_pay4 n) (firstBlk b (blkTile inb1 sm) (eltTile inb g) (eltTile inb cm))
        (secondBlk b (blkTile inb1 sv) (eltTile inb g) (eltTile inb cv)) (eltTile inb p) x
      = kDeltaArr (R := 256) n p (firstArr cm sm g) (secondArr cv sv g)
          ((Rect.unit (s := S256x2048) off S32x128.size inb).emb x) := by
  obtain ⟨r, l, rfl⟩ : ∃ r l, x = ix2 r l := ⟨_, _, eq_ix2 x⟩
  rw [deltaBlk_apply, first_place k b hoff hoff1, second_place k b hoff hoff1]
  show kDelta n (p ((Rect.unit (s := S256x2048) off S32x128.size inb).idx (ix2 r l))) _ _
    = kDeltaArr (R := 256) n p (firstArr cm sm g) (secondArr cv sv g) ((Rect.unit (s := S256x2048) off S32x128.size inb).idx (ix2 r l))
  rw [place_elt k b hoff]
  rfl

omit hoff1 in
/-- The codes of a block column of an array of moments are the block's at its places. -/
theorem code_place (u : FVec Ideal S32x128 .f32) (U : (Elts 256).Idx → EReal)
    (hu : ∀ r l, u (ix2 r l) = U (ix2 (tileRow k r) (colLane b l))) (x : S32x128.Idx) :
    k0_pay15 u x = codeArr U ((Rect.unit (s := S256x2048) off S32x128.size inb).emb x) := by
  obtain ⟨r, l, rfl⟩ : ∃ r l, x = ix2 r l := ⟨_, _, eq_ix2 x⟩
  rw [codeBlk_apply]
  show _ = codeArr U ((Rect.unit (s := S256x2048) off S32x128.size inb).idx (ix2 r l))
  rw [place_elt k b hoff, hu]
  simp only [hu]
  unfold codeArr scaleArr
  rw [blockOf_place]
  rfl

/-- The codes of the first moments of a block column. -/
theorem first_code_place (x : S32x128.Idx) :
    k0_pay15 (firstBlk b (blkTile inb1 sm) (eltTile inb g) (eltTile inb cm)) x
      = codeArr (R := 256) (firstArr cm sm g) ((Rect.unit (s := S256x2048) off S32x128.size inb).emb x) :=
  code_place k b hoff inb _ _ (first_place k b hoff hoff1 inb inb1 g cm sm) x

/-- The codes of the second moments of a block column. -/
theorem second_code_place (x : S32x128.Idx) :
    k0_pay15 (secondBlk b (blkTile inb1 sv) (eltTile inb g) (eltTile inb cv)) x
      = codeArr (R := 256) (secondArr cv sv g) ((Rect.unit (s := S256x2048) off S32x128.size inb).emb x) :=
  code_place k b hoff inb _ _ (second_place k b hoff hoff1 inb inb1 g cv sv) x

end Column

/-! ## The sixteen columns of scales -/

/-- The first `n` columns of a tile of scales hold the scales of the moments `U`. -/
def Scaled (U : (Elts 256).Idx → EReal) (n : Nat) (acc : FVec Ideal S32x16 .f32) : Prop :=
  ∀ r c, c.val < n → acc (ix2 r c) = scaleArr U (ix2 (tileRow k r) c)

/-- Before any column is put in place. -/
theorem scaled_zero (U : (Elts 256).Idx → EReal) (acc : FVec Ideal S32x16 .f32) : Scaled k U 0 acc :=
  fun _ _ h => absurd h (Nat.not_lt_zero _)

/-- Putting column `b` in place. -/
theorem scaled_succ {U : (Elts 256).Idx → EReal} (b : Fin 16) {acc : FVec Ideal S32x16 .f32} (h : Scaled k U b.val acc)
    {u : FVec Ideal S32x128 .f32} (hu : ∀ r l, u (ix2 r l) = U (ix2 (tileRow k r) (colLane b l))) :
    Scaled k U (b.val + 1) (laneBlk b acc (k0_pay14 u)) := by
  intro r c hc
  rw [laneBlk_apply, scaleBlk_apply]
  by_cases hb : c = b
  · subst hb
    rw [if_pos rfl]
    simp only [hu]
    rfl
  · rw [if_neg hb]
    exact h r c (by have := Fin.val_ne_of_ne hb; omega)

/-- A tile of scales with all sixteen columns in place is the block's at its places. -/
theorem scaled_place {off1 : Fin 2 → Nat} (hoff1 : off1 = ![32 * k.val, 0])
    (inb1 : ∀ a, off1 a + S32x16.size a ≤ S256x16.size a) {U : (Elts 256).Idx → EReal} {acc : FVec Ideal S32x16 .f32}
    (h : Scaled k U 16 acc) (x : S32x16.Idx) :
    acc x = scaleArr U ((Rect.unit (s := S256x16) off1 S32x16.size inb1).emb x) := by
  obtain ⟨r, c, rfl⟩ : ∃ r c, x = ix2 r c := ⟨_, _, eq_ix2 x⟩
  show _ = scaleArr U ((Rect.unit (s := S256x16) off1 S32x16.size inb1).idx (ix2 r c))
  rw [place_blk k hoff1, h r c c.isLt]

end Cert.Adam

end
-- ==== Proof.Trips.lean ====
/- The kernel's loop: what each trip writes of the five outputs, hence what all trips before the `j`-th wrote. -/
module

public import proofs.«01_k».proof.Proof.Tile
public import proofs.«01_k».proof.Proof.Gen.KernelIdeal.Frame

@[expose] public section

set_option maxRecDepth 16384

noncomputable section

namespace Cert.Adam

open Idealize.ShloMosaic Idealize.ShloMosaic.TcCoe Idealize.ShloMosaic.Tactic
open Idealize.SL Idealize.SL.Sem
open Cert.KernelIdeal Cert.KernelIdeal.Gen

/-- A load from a whole buffer held at `X` reads `X` through the load's rectangle. -/
theorem readAt_unread_fun {κ : Kind} {sp : Space} {s : Shape} {e : EltTy} {m : Memref sig κ sp s e} (h : m.IsWhole)
    (X : s.Idx → Elt Ideal e) (B : LoadRect s) :
    View.readAt (Elt Ideal) m.view B (h.unread X) = fun x => X (B.idx x) :=
  funext fun x => h.readAt_unread X B x

/-- The column number of every entry of a tile of scales. -/
abbrev tileLanes : IVec S32x16 32 := iota .tc S32x16 32 [1] iota_S32x16_d1_w32

/-- Every piece of a list of writes holds the values `G` has at the places it writes. -/
abbrev Writes {s : Shape} {e : EltTy} (G : s.Idx → Elt Ideal e) (L : List (View.Piece (Elt Ideal) s e)) : Prop :=
  ∀ p ∈ L, ∀ x, p.2 x = G (p.1.emb x)

variable (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole)
  (arg4 : Memref sig .tc .vmem S256x2048 .i8) (harg4 : arg4.IsWhole) (arg5 : Memref sig .tc .vmem S256x16 .f32) (harg5 : arg5.IsWhole) (arg6 : Memref sig .tc .vmem S256x2048 .i8) (harg6 : arg6.IsWhole) (arg7 : Memref sig .tc .vmem S256x16 .f32) (harg7 : arg7.IsWhole)
  (arg8 : Memref sig .tc .vmem S256x2048 .f32) (harg8 : arg8.IsWhole) (arg9 : Memref sig .tc .vmem S256x2048 .i8) (harg9 : arg9.IsWhole) (arg10 : Memref sig .tc .vmem S256x16 .f32) (harg10 : arg10.IsWhole) (arg11 : Memref sig .tc .vmem S256x2048 .i8) (harg11 : arg11.IsWhole) (arg12 : Memref sig .tc .vmem S256x16 .f32) (harg12 : arg12.IsWhole)
  (n : BitVec 32) (x1 : Vec Ideal S256x2048 .f32) (x2 : Vec Ideal S256x2048 .bf16) (x3 : Vec Ideal S256x2048 .i8) (x4 : Vec Ideal S256x16 .f32) (x5 : Vec Ideal S256x2048 .i8) (x6 : Vec Ideal S256x16 .f32)

section Trip

variable (k : Fin k0_t1_loop.trips)

/-- One trip writes the parameter updates of its tile. -/
theorem trip_delta : Writes (kDeltaArr (R := 256) n x1 (firstArr x3 x4 x2) (secondArr x5 x6 x2))
    (trip_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) k).1 := by
  unfold trip_k0_t1
  dsimp only
  sl_unfold_run_names
  simp only [readAt_unread_fun]
  exact List.forall_mem_cons.2 ⟨delta_place k 15 (k0_off17_eq k) (k0_off1_eq k) _ _ n x1 x2 x3 x4 x5 x6,
    List.forall_mem_cons.2 ⟨delta_place k 14 (k0_off16_eq k) (k0_off1_eq k) _ _ n x1 x2 x3 x4 x5 x6,
    List.forall_mem_cons.2 ⟨delta_place k 13 (k0_off15_eq k) (k0_off1_eq k) _ _ n x1 x2 x3 x4 x5 x6,
    List.forall_mem_cons.2 ⟨delta_place k 12 (k0_off14_eq k) (k0_off1_eq k) _ _ n x1 x2 x3 x4 x5 x6,
    List.forall_mem_cons.2 ⟨delta_place k 11 (k0_off13_eq k) (k0_off1_eq k) _ _ n x1 x2 x3 x4 x5 x6,
    List.forall_mem_cons.2 ⟨delta_place k 10 (k0_off12_eq k) (k0_off1_eq k) _ _ n x1 x2 x3 x4 x5 x6,
    List.forall_mem_cons.2 ⟨delta_place k 9 (k0_off11_eq k) (k0_off1_eq k) _ _ n x1 x2 x3 x4 x5 x6,
    List.forall_mem_cons.2 ⟨delta_place k 8 (k0_off10_eq k) (k0_off1_eq k) _ _ n x1 x2 x3 x4 x5 x6,
    List.forall_mem_cons.2 ⟨delta_place k 7 (k0_off9_eq k) (k0_off1_eq k) _ _ n x1 x2 x3 x4 x5 x6,
    List.forall_mem_cons.2 ⟨delta_place k 6 (k0_off8_eq k) (k0_off1_eq k) _ _ n x1 x2 x3 x4 x5 x6,
    List.forall_mem_cons.2 ⟨delta_place k 5 (k0_off7_eq k) (k0_off1_eq k) _ _ n x1 x2 x3 x4 x5 x6,
    List.forall_mem_cons.2 ⟨delta_place k 4 (k0_off6_eq k) (k0_off1_eq k) _ _ n x1 x2 x3 x4 x5 x6,
    List.forall_mem_cons.2 ⟨delta_place k 3 (k0_off5_eq k) (k0_off1_eq k) _ _ n x1 x2 x3 x4 x5 x6,
    List.forall_mem_cons.2 ⟨delta_place k 2 (k0_off4_eq k) (k0_off1_eq k) _ _ n x1 x2 x3 x4 x5 x6,
    List.forall_mem_cons.2 ⟨delta_place k 1 (k0_off3_eq k) (k0_off1_eq k) _ _ n x1 x2 x3 x4 x5 x6,
    List.forall_mem_cons.2 ⟨delta_place k 0 (k0_off2_eq k) (k0_off1_eq k) _ _ n x1 x2 x3 x4 x5 x6,
    List.forall_mem_nil _⟩⟩⟩⟩⟩⟩⟩⟩⟩⟩⟩⟩⟩⟩⟩⟩

/-- One trip writes the new codes of its tile’s first moments. -/
theorem trip_first_code : Writes (codeArr (R := 256) (firstArr x3 x4 x2))
    (trip_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) k).2.1 := by
  unfold trip_k0_t1
  dsimp only
  sl_unfold_run_names
  simp only [readAt_unread_fun]
  exact List.forall_mem_cons.2 ⟨first_code_place k 15 (k0_off17_eq k) (k0_off1_eq k) _ _ x2 x3 x4,
    List.forall_mem_cons.2 ⟨first_code_place k 14 (k0_off16_eq k) (k0_off1_eq k) _ _ x2 x3 x4,
    List.forall_mem_cons.2 ⟨first_code_place k 13 (k0_off15_eq k) (k0_off1_eq k) _ _ x2 x3 x4,
    List.forall_mem_cons.2 ⟨first_code_place k 12 (k0_off14_eq k) (k0_off1_eq k) _ _ x2 x3 x4,
    List.forall_mem_cons.2 ⟨first_code_place k 11 (k0_off13_eq k) (k0_off1_eq k) _ _ x2 x3 x4,
    List.forall_mem_cons.2 ⟨first_code_place k 10 (k0_off12_eq k) (k0_off1_eq k) _ _ x2 x3 x4,
    List.forall_mem_cons.2 ⟨first_code_place k 9 (k0_off11_eq k) (k0_off1_eq k) _ _ x2 x3 x4,
    List.forall_mem_cons.2 ⟨first_code_place k 8 (k0_off10_eq k) (k0_off1_eq k) _ _ x2 x3 x4,
    List.forall_mem_cons.2 ⟨first_code_place k 7 (k0_off9_eq k) (k0_off1_eq k) _ _ x2 x3 x4,
    List.forall_mem_cons.2 ⟨first_code_place k 6 (k0_off8_eq k) (k0_off1_eq k) _ _ x2 x3 x4,
    List.forall_mem_cons.2 ⟨first_code_place k 5 (k0_off7_eq k) (k0_off1_eq k) _ _ x2 x3 x4,
    List.forall_mem_cons.2 ⟨first_code_place k 4 (k0_off6_eq k) (k0_off1_eq k) _ _ x2 x3 x4,
    List.forall_mem_cons.2 ⟨first_code_place k 3 (k0_off5_eq k) (k0_off1_eq k) _ _ x2 x3 x4,
    List.forall_mem_cons.2 ⟨first_code_place k 2 (k0_off4_eq k) (k0_off1_eq k) _ _ x2 x3 x4,
    List.forall_mem_cons.2 ⟨first_code_place k 1 (k0_off3_eq k) (k0_off1_eq k) _ _ x2 x3 x4,
    List.forall_mem_cons.2 ⟨first_code_place k 0 (k0_off2_eq k) (k0_off1_eq k) _ _ x2 x3 x4,
    List.forall_mem_nil _⟩⟩⟩⟩⟩⟩⟩⟩⟩⟩⟩⟩⟩⟩⟩⟩

/-- One trip writes the new codes of its tile’s second moments. -/
theorem trip_second_code : Writes (codeArr (R := 256) (secondArr x5 x6 x2))
    (trip_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) k).2.2.2.1 := by
  unfold trip_k0_t1
  dsimp only
  sl_unfold_run_names
  simp only [readAt_unread_fun]
  exact List.forall_mem_cons.2 ⟨second_code_place k 15 (k0_off17_eq k) (k0_off1_eq k) _ _ x2 x5 x6,
    List.forall_mem_cons.2 ⟨second_code_place k 14 (k0_off16_eq k) (k0_off1_eq k) _ _ x2 x5 x6,
    List.forall_mem_cons.2 ⟨second_code_place k 13 (k0_off15_eq k) (k0_off1_eq k) _ _ x2 x5 x6,
    List.forall_mem_cons.2 ⟨second_code_place k 12 (k0_off14_eq k) (k0_off1_eq k) _ _ x2 x5 x6,
    List.forall_mem_cons.2 ⟨second_code_place k 11 (k0_off13_eq k) (k0_off1_eq k) _ _ x2 x5 x6,
    List.forall_mem_cons.2 ⟨second_code_place k 10 (k0_off12_eq k) (k0_off1_eq k) _ _ x2 x5 x6,
    List.forall_mem_cons.2 ⟨second_code_place k 9 (k0_off11_eq k) (k0_off1_eq k) _ _ x2 x5 x6,
    List.forall_mem_cons.2 ⟨second_code_place k 8 (k0_off10_eq k) (k0_off1_eq k) _ _ x2 x5 x6,
    List.forall_mem_cons.2 ⟨second_code_place k 7 (k0_off9_eq k) (k0_off1_eq k) _ _ x2 x5 x6,
    List.forall_mem_cons.2 ⟨second_code_place k 6 (k0_off8_eq k) (k0_off1_eq k) _ _ x2 x5 x6,
    List.forall_mem_cons.2 ⟨second_code_place k 5 (k0_off7_eq k) (k0_off1_eq k) _ _ x2 x5 x6,
    List.forall_mem_cons.2 ⟨second_code_place k 4 (k0_off6_eq k) (k0_off1_eq k) _ _ x2 x5 x6,
    List.forall_mem_cons.2 ⟨second_code_place k 3 (k0_off5_eq k) (k0_off1_eq k) _ _ x2 x5 x6,
    List.forall_mem_cons.2 ⟨second_code_place k 2 (k0_off4_eq k) (k0_off1_eq k) _ _ x2 x5 x6,
    List.forall_mem_cons.2 ⟨second_code_place k 1 (k0_off3_eq k) (k0_off1_eq k) _ _ x2 x5 x6,
    List.forall_mem_cons.2 ⟨second_code_place k 0 (k0_off2_eq k) (k0_off1_eq k) _ _ x2 x5 x6,
    List.forall_mem_nil _⟩⟩⟩⟩⟩⟩⟩⟩⟩⟩⟩⟩⟩⟩⟩⟩

/-- One trip writes the new scales of its tile’s first moments. -/
theorem trip_first_scale : Writes (scaleArr (R := 256) (firstArr x3 x4 x2))
    (trip_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) k).2.2.1 := by
  unfold trip_k0_t1
  dsimp only
  sl_unfold_run_names
  simp only [readAt_unread_fun]
  refine List.forall_mem_cons.2 ⟨scaled_place k (k0_off1_eq k) (k0_off1_inb k) ?_, List.forall_mem_nil _⟩
  exact scaled_succ k 15 (scaled_succ k 14 (scaled_succ k 13 (scaled_succ k 12 (scaled_succ k 11 (scaled_succ k 10 (scaled_succ k 9 (scaled_succ k 8 (scaled_succ k 7 (scaled_succ k 6 (scaled_succ k 5 (scaled_succ k 4 (scaled_succ k 3 (scaled_succ k 2 (scaled_succ k 1 (scaled_succ k 0 (scaled_zero k _ _)
    (first_place k 0 (k0_off2_eq k) (k0_off1_eq k) (k0_off2_inb k) (k0_off1_inb k) x2 x3 x4))
    (first_place k 1 (k0_off3_eq k) (k0_off1_eq k) (k0_off3_inb k) (k0_off1_inb k) x2 x3 x4))
    (first_place k 2 (k0_off4_eq k) (k0_off1_eq k) (k0_off4_inb k) (k0_off1_inb k) x2 x3 x4))
    (first_place k 3 (k0_off5_eq k) (k0_off1_eq k) (k0_off5_inb k) (k0_off1_inb k) x2 x3 x4))
    (first_place k 4 (k0_off6_eq k) (k0_off1_eq k) (k0_off6_inb k) (k0_off1_inb k) x2 x3 x4))
    (first_place k 5 (k0_off7_eq k) (k0_off1_eq k) (k0_off7_inb k) (k0_off1_inb k) x2 x3 x4))
    (first_place k 6 (k0_off8_eq k) (k0_off1_eq k) (k0_off8_inb k) (k0_off1_inb k) x2 x3 x4))
    (first_place k 7 (k0_off9_eq k) (k0_off1_eq k) (k0_off9_inb k) (k0_off1_inb k) x2 x3 x4))
    (first_place k 8 (k0_off10_eq k) (k0_off1_eq k) (k0_off10_inb k) (k0_off1_inb k) x2 x3 x4))
    (first_place k 9 (k0_off11_eq k) (k0_off1_eq k) (k0_off11_inb k) (k0_off1_inb k) x2 x3 x4))
    (first_place k 10 (k0_off12_eq k) (k0_off1_eq k) (k0_off12_inb k) (k0_off1_inb k) x2 x3 x4))
    (first_place k 11 (k0_off13_eq k) (k0_off1_eq k) (k0_off13_inb k) (k0_off1_inb k) x2 x3 x4))
    (first_place k 12 (k0_off14_eq k) (k0_off1_eq k) (k0_off14_inb k) (k0_off1_inb k) x2 x3 x4))
    (first_place k 13 (k0_off15_eq k) (k0_off1_eq k) (k0_off15_inb k) (k0_off1_inb k) x2 x3 x4))
    (first_place k 14 (k0_off16_eq k) (k0_off1_eq k) (k0_off16_inb k) (k0_off1_inb k) x2 x3 x4))
    (first_place k 15 (k0_off17_eq k) (k0_off1_eq k) (k0_off17_inb k) (k0_off1_inb k) x2 x3 x4)

/-- One trip writes the new scales of its tile’s second moments. -/
theorem trip_second_scale : Writes (scaleArr (R := 256) (secondArr x5 x6 x2))
    (trip_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) k).2.2.2.2.1 := by
  unfold trip_k0_t1
  dsimp only
  sl_unfold_run_names
  simp only [readAt_unread_fun]
  refine List.forall_mem_cons.2 ⟨scaled_place k (k0_off1_eq k) (k0_off1_inb k) ?_, List.forall_mem_nil _⟩
  exact scaled_succ k 15 (scaled_succ k 14 (scaled_succ k 13 (scaled_succ k 12 (scaled_succ k 11 (scaled_succ k 10 (scaled_succ k 9 (scaled_succ k 8 (scaled_succ k 7 (scaled_succ k 6 (scaled_succ k 5 (scaled_succ k 4 (scaled_succ k 3 (scaled_succ k 2 (scaled_succ k 1 (scaled_succ k 0 (scaled_zero k _ _)
    (second_place k 0 (k0_off2_eq k) (k0_off1_eq k) (k0_off2_inb k) (k0_off1_inb k) x2 x5 x6))
    (second_place k 1 (k0_off3_eq k) (k0_off1_eq k) (k0_off3_inb k) (k0_off1_inb k) x2 x5 x6))
    (second_place k 2 (k0_off4_eq k) (k0_off1_eq k) (k0_off4_inb k) (k0_off1_inb k) x2 x5 x6))
    (second_place k 3 (k0_off5_eq k) (k0_off1_eq k) (k0_off5_inb k) (k0_off1_inb k) x2 x5 x6))
    (second_place k 4 (k0_off6_eq k) (k0_off1_eq k) (k0_off6_inb k) (k0_off1_inb k) x2 x5 x6))
    (second_place k 5 (k0_off7_eq k) (k0_off1_eq k) (k0_off7_inb k) (k0_off1_inb k) x2 x5 x6))
    (second_place k 6 (k0_off8_eq k) (k0_off1_eq k) (k0_off8_inb k) (k0_off1_inb k) x2 x5 x6))
    (second_place k 7 (k0_off9_eq k) (k0_off1_eq k) (k0_off9_inb k) (k0_off1_inb k) x2 x5 x6))
    (second_place k 8 (k0_off10_eq k) (k0_off1_eq k) (k0_off10_inb k) (k0_off1_inb k) x2 x5 x6))
    (second_place k 9 (k0_off11_eq k) (k0_off1_eq k) (k0_off11_inb k) (k0_off1_inb k) x2 x5 x6))
    (second_place k 10 (k0_off12_eq k) (k0_off1_eq k) (k0_off12_inb k) (k0_off1_inb k) x2 x5 x6))
    (second_place k 11 (k0_off13_eq k) (k0_off1_eq k) (k0_off13_inb k) (k0_off1_inb k) x2 x5 x6))
    (second_place k 12 (k0_off14_eq k) (k0_off1_eq k) (k0_off14_inb k) (k0_off1_inb k) x2 x5 x6))
    (second_place k 13 (k0_off15_eq k) (k0_off1_eq k) (k0_off15_inb k) (k0_off1_inb k) x2 x5 x6))
    (second_place k 14 (k0_off16_eq k) (k0_off1_eq k) (k0_off16_inb k) (k0_off1_inb k) x2 x5 x6))
    (second_place k 15 (k0_off17_eq k) (k0_off1_eq k) (k0_off17_inb k) (k0_off1_inb k) x2 x5 x6)

end Trip

/-- The same of all trips before the `j`-th, in every output. -/
theorem trips_write : ∀ j : ℕ, j ≤ k0_t1_loop.trips →
    Writes (kDeltaArr (R := 256) n x1 (firstArr x3 x4 x2) (secondArr x5 x6 x2))
      (pb_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) j).1
    ∧ Writes (codeArr (R := 256) (firstArr x3 x4 x2))
      (pb_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) j).2.1
    ∧ Writes (scaleArr (R := 256) (firstArr x3 x4 x2))
      (pb_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) j).2.2.1
    ∧ Writes (codeArr (R := 256) (secondArr x5 x6 x2))
      (pb_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) j).2.2.2.1
    ∧ Writes (scaleArr (R := 256) (secondArr x5 x6 x2))
      (pb_k0_t1 (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) j).2.2.2.2
  | 0, _ => ⟨List.forall_mem_nil _, List.forall_mem_nil _, List.forall_mem_nil _, List.forall_mem_nil _, List.forall_mem_nil _⟩
  | j + 1, h => by
    obtain ⟨h7, h8, h9, h10, h11⟩ := trips_write j (Nat.le_of_succ_le h)
    rw [pb_k0_t1_succ (F := Ideal) Variants.none c none i arg1 harg1 arg2 harg2 arg3 harg3 arg4 harg4 arg5 harg5 arg6 harg6 arg7 harg7 arg8 harg8 arg9 harg9 arg10 harg10 arg11 harg11 arg12 harg12 n tileLanes (harg2.unread x1) (harg3.unread x2) (harg4.unread x3) (harg5.unread x4) (harg6.unread x5) (harg7.unread x6) ⟨j, h⟩]
    exact ⟨List.forall_mem_append.2 ⟨trip_delta c i arg1 harg1 arg2 harg2 arg3 harg3 arg4 harg4 arg5 harg5 arg6 harg6 arg7 harg7 arg8 harg8 arg9 harg9 arg10 harg10 arg11 harg11 arg12 harg12 n x1 x2 x3 x4 x5 x6 ⟨j, h⟩, h7⟩,
      List.forall_mem_append.2 ⟨trip_first_code c i arg1 harg1 arg2 harg2 arg3 harg3 arg4 harg4 arg5 harg5 arg6 harg6 arg7 harg7 arg8 harg8 arg9 harg9 arg10 harg10 arg11 harg11 arg12 harg12 n x1 x2 x3 x4 x5 x6 ⟨j, h⟩, h8⟩,
      List.forall_mem_append.2 ⟨trip_first_scale c i arg1 harg1 arg2 harg2 arg3 harg3 arg4 harg4 arg5 harg5 arg6 harg6 arg7 harg7 arg8 harg8 arg9 harg9 arg10 harg10 arg11 harg11 arg12 harg12 n x1 x2 x3 x4 x5 x6 ⟨j, h⟩, h9⟩,
      List.forall_mem_append.2 ⟨trip_second_code c i arg1 harg1 arg2 harg2 arg3 harg3 arg4 harg4 arg5 harg5 arg6 harg6 arg7 harg7 arg8 harg8 arg9 harg9 arg10 harg10 arg11 harg11 arg12 harg12 n x1 x2 x3 x4 x5 x6 ⟨j, h⟩, h10⟩,
      List.forall_mem_append.2 ⟨trip_second_scale c i arg1 harg1 arg2 harg2 arg3 harg3 arg4 harg4 arg5 harg5 arg6 harg6 arg7 harg7 arg8 harg8 arg9 harg9 arg10 harg10 arg11 harg11 arg12 harg12 n x1 x2 x3 x4 x5 x6 ⟨j, h⟩, h11⟩⟩

end Cert.Adam

end
-- ==== Proof.BlockOut.lean ====
/- One grid point of the kernel: what its eight trips leave in the five outputs' blocks is the model's arrays of the
   point's input blocks. -/
module

public import proofs.«01_k».proof.Proof.Trips

@[expose] public section

set_option maxRecDepth 16384

noncomputable section

namespace Cert.Adam

open Idealize.ShloMosaic Idealize.ShloMosaic.TcCoe Idealize.ShloMosaic.Tactic
open Idealize.SL Idealize.SL.Sem
open Cert.KernelIdeal Cert.KernelIdeal.Gen

/-- The one entry of the step-counter array. -/
def stepOf (x : Vec Ideal S1 .i32) : BitVec 32 := x (Shape.Idx.first (s := S1) (by decide))

/-- There is one index into the step-counter array. -/
theorem counter_idx (a b : S1.Idx) : a = b := by
  funext k
  match k with
  | ⟨0, _⟩ => exact Subsingleton.elim (α := Fin 1) (a 0) (b 0)

variable (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole)
  (arg4 : Memref sig .tc .vmem S256x2048 .i8) (harg4 : arg4.IsWhole) (arg5 : Memref sig .tc .vmem S256x16 .f32) (harg5 : arg5.IsWhole) (arg6 : Memref sig .tc .vmem S256x2048 .i8) (harg6 : arg6.IsWhole) (arg7 : Memref sig .tc .vmem S256x16 .f32) (harg7 : arg7.IsWhole)
  (arg8 : Memref sig .tc .vmem S256x2048 .f32) (harg8 : arg8.IsWhole) (arg9 : Memref sig .tc .vmem S256x2048 .i8) (harg9 : arg9.IsWhole) (arg10 : Memref sig .tc .vmem S256x16 .f32) (harg10 : arg10.IsWhole) (arg11 : Memref sig .tc .vmem S256x2048 .i8) (harg11 : arg11.IsWhole) (arg12 : Memref sig .tc .vmem S256x16 .f32) (harg12 : arg12.IsWhole)
  (x0 : Vec Ideal S1 .i32) (x1 : Vec Ideal S256x2048 .f32) (x2 : Vec Ideal S256x2048 .bf16) (x3 : Vec Ideal S256x2048 .i8) (x4 : Vec Ideal S256x16 .f32) (x5 : Vec Ideal S256x2048 .i8) (x6 : Vec Ideal S256x16 .f32)

/-- Every store of a grid point's body writes the values of the model's arrays at the store's own place. -/
theorem run_writes :
    Writes (kDeltaArr (R := 256) (stepOf x0) x1 (firstArr x3 x4 x2) (secondArr x5 x6 x2)) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).1
    ∧ Writes (codeArr (R := 256) (firstArr x3 x4 x2)) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1
    ∧ Writes (scaleArr (R := 256) (firstArr x3 x4 x2)) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.1
    ∧ Writes (codeArr (R := 256) (secondArr x5 x6 x2)) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1
    ∧ Writes (scaleArr (R := 256) (secondArr x5 x6 x2)) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.2.1 := by
  unfold kernelRun0_A
  dsimp only
  have h := trips_write c i arg1 harg1 arg2 harg2 arg3 harg3 arg4 harg4 arg5 harg5 arg6 harg6 arg7 harg7 arg8 harg8 arg9 harg9 arg10 harg10 arg11 harg11 arg12 harg12 (stepOf x0) x1 x2 x3 x4 x5 x6 _ le_rfl
  have e : ∀ pos, View.readAt (Elt Ideal) arg1.view (Rect.unit ![0] S1.size inb_S1_S1_0).toLoadRect (harg1.unread x0)
      (Shape.Idx.first (s := S1) pos) = stepOf x0 := fun pos => by
    rw [readAt_unread_fun]
    exact congrArg x0 (counter_idx _ _)
  sl_unfold_run_names
  rw [e]
  exact h

/-- The block of the parameter update a grid point leaves. -/
theorem out_7 : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
    = kDeltaArr (R := 256) (stepOf x0) x1 (firstArr x3 x4 x2) (secondArr x5 x6 x2) := by
  funext y
  unfold out0_A_7
  exact View.read_writes_apply_of_pieces VO0_7 VO0_7.junk _ _ (run_writes c i arg1 harg1 arg2 harg2 arg3 harg3 arg4 harg4 arg5 harg5 arg6 harg6 arg7 harg7 arg8 harg8 arg9 harg9 arg10 harg10 arg11 harg11 arg12 harg12 x0 x1 x2 x3 x4 x5 x6).1 y
    (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 y)

/-- The block of the first-moment codes a grid point leaves. -/
theorem out_8 : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
    = codeArr (R := 256) (firstArr x3 x4 x2) := by
  funext y
  unfold out0_A_8
  exact View.read_writes_apply_of_pieces VO0_8 VO0_8.junk _ _ (run_writes c i arg1 harg1 arg2 harg2 arg3 harg3 arg4 harg4 arg5 harg5 arg6 harg6 arg7 harg7 arg8 harg8 arg9 harg9 arg10 harg10 arg11 harg11 arg12 harg12 x0 x1 x2 x3 x4 x5 x6).2.1 y
    (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 y)

/-- The block of the first-moment scales a grid point leaves. -/
theorem out_9 : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
    = scaleArr (R := 256) (firstArr x3 x4 x2) := by
  funext y
  unfold out0_A_9
  exact View.read_writes_apply_of_pieces VO0_9 VO0_9.junk _ _ (run_writes c i arg1 harg1 arg2 harg2 arg3 harg3 arg4 harg4 arg5 harg5 arg6 harg6 arg7 harg7 arg8 harg8 arg9 harg9 arg10 harg10 arg11 harg11 arg12 harg12 x0 x1 x2 x3 x4 x5 x6).2.2.1 y
    (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 y)

/-- The block of the second-moment codes a grid point leaves. -/
theorem out_10 : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
    = codeArr (R := 256) (secondArr x5 x6 x2) := by
  funext y
  unfold out0_A_10
  exact View.read_writes_apply_of_pieces VO0_10 VO0_10.junk _ _ (run_writes c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.1 y
    (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 y)

/-- The block of the second-moment scales a grid point leaves. -/
theorem out_11 : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6
    = scaleArr (R := 256) (secondArr x5 x6 x2) := by
  funext y
  unfold out0_A_11
  exact View.read_writes_apply_of_pieces VO0_11 VO0_11.junk _ _ (run_writes c i arg1 harg1 arg2 harg2 arg3 harg3 arg4 harg4 arg5 harg5 arg6 harg6 arg7 harg7 arg8 harg8 arg9 harg9 arg10 harg10 arg11 harg11 arg12 harg12 x0 x1 x2 x3 x4 x5 x6).2.2.2.2 y
    (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 y)

end Cert.Adam

end
-- ==== Proof.Whole.lean ====
/- The whole kernel: its forty grid points write the forty blocks of 256 rows of the five result arrays, so each result array
   ends at the model's array of the argument arrays. -/
module

public import proofs.«01_k».proof.Proof.BlockOut
public import proofs.«01_k».proof.Proof.Gen.KernelIdeal.Value
public import Idealize.ShloMosaic.Lib.Pipeline.Value

@[expose] public section

set_option maxRecDepth 16384

noncomputable section

namespace Cert.Adam

open Idealize.ShloMosaic Idealize.ShloMosaic.TcCoe Idealize.ShloMosaic.Tactic
open Idealize.SL Idealize.SL.Sem
open Cert.KernelIdeal Cert.KernelIdeal.Gen
open Idealize.ShloMosaic.Pipeline (Dat)

/-! ## Where a grid point's blocks sit in their arrays -/

/-- There are forty grid points. -/
theorem point_lt (t : Fin cfg0.N) : t.val < 40 := Nat.lt_of_lt_of_eq t.isLt N_0

/-- Row `r` of grid point `t`'s blocks, as a row of the arrays. -/
abbrev rowOf (t : Fin cfg0.N) (r : Fin 256) : Fin 10240 :=
  ⟨256 * t.val + r.val, by have := point_lt t; have := r.isLt; omega⟩

/-- An index whose coordinates are those of block `t` at `y` is `y` with its row read in the array. -/
theorem eq_rowElt (t : Fin cfg0.N) (y : (Elts 256).Idx) (e : (Elts 10240).Idx) {j0 j1 : Nat} (hj : j0 = t.val ∧ j1 = 0)
    (h0 : (e 0).val = j0 * 256 + (y 0).val) (h1 : (e 1).val = j1 * 2048 + (y 1).val) : e = rowElt (rowOf t) y := by
  obtain ⟨rfl, rfl⟩ := hj
  funext a
  apply Fin.ext
  match a with
  | ⟨0, _⟩ => exact h0.trans (by rw [Nat.mul_comm]; rfl)
  | ⟨1, _⟩ => exact h1.trans ((congrArg (· + _) (Nat.zero_mul _)).trans (Nat.zero_add _))

/-- The same for the arrays of scales. -/
theorem eq_rowBlk (t : Fin cfg0.N) (z : (Blks 256).Idx) (e : (Blks 10240).Idx) {j0 j1 : Nat} (hj : j0 = t.val ∧ j1 = 0)
    (h0 : (e 0).val = j0 * 256 + (z 0).val) (h1 : (e 1).val = j1 * 16 + (z 1).val) : e = rowBlk (rowOf t) z := by
  obtain ⟨rfl, rfl⟩ := hj
  funext a
  apply Fin.ext
  match a with
  | ⟨0, _⟩ => exact h0.trans (by rw [Nat.mul_comm]; rfl)
  | ⟨1, _⟩ => exact h1.trans ((congrArg (· + _) (Nat.zero_mul _)).trans (Nat.zero_add _))

/-- Every element of an array lies in some grid point's block. -/
theorem exists_rowElt (i : (Elts 10240).Idx) : ∃ (t : Fin cfg0.N) (y : (Elts 256).Idx), rowElt (rowOf t) y = i := by
  have h := (i 0).isLt
  have hi : (i 0).val < 10240 := h
  refine ⟨⟨(i 0).val / 256, Nat.lt_of_lt_of_eq (by omega) N_0.symm⟩, ix2 ⟨(i 0).val % 256, by omega⟩ (i 1), ?_⟩
  funext a
  apply Fin.ext
  match a with
  | ⟨0, _⟩ => exact Nat.div_add_mod _ _
  | ⟨1, _⟩ => rfl

/-- Every scale of an array of scales lies in some grid point's block. -/
theorem exists_rowBlk (i : (Blks 10240).Idx) : ∃ (t : Fin cfg0.N) (z : (Blks 256).Idx), rowBlk (rowOf t) z = i := by
  have h := (i 0).isLt
  have hi : (i 0).val < 10240 := h
  refine ⟨⟨(i 0).val / 256, Nat.lt_of_lt_of_eq (by omega) N_0.symm⟩, ix2 ⟨(i 0).val % 256, by omega⟩ (i 1), ?_⟩
  funext a
  apply Fin.ext
  match a with
  | ⟨0, _⟩ => exact Nat.div_add_mod _ _
  | ⟨1, _⟩ => rfl

/-- Every window but the counter's stages the block row of the grid point. -/
theorem block_index : ∀ t : Fin cfg0.N, (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0) :=
  (by decide +kernel : ∀ t : Fin grid0.N, (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0))

/-- Where grid point `t`'s block of the parameter sits. -/
theorem place1 (t : Fin cfg0.N) (y : S256x2048.Idx) : ((cfg0.win 1).blk t).view.emb y = rowElt (rowOf t) y :=
  eq_rowElt t y _ (block_index t).1 (Pipeline.Window.rect_emb_val win0_1 t y 0 rfl)
    (Pipeline.Window.rect_emb_val win0_1 t y 1 rfl)

/-- Where grid point `t`'s block of the gradient sits. -/
theorem place2 (t : Fin cfg0.N) (y : S256x2048.Idx) : ((cfg0.win 2).blk t).view.emb y = rowElt (rowOf t) y :=
  eq_rowElt t y _ (block_index t).2.1 (Pipeline.Window.rect_emb_val win0_2 t y 0 rfl)
    (Pipeline.Window.rect_emb_val win0_2 t y 1 rfl)

/-- Where grid point `t`'s block of the old first-moment codes sits. -/
theorem place3 (t : Fin cfg0.N) (y : S256x2048.Idx) : ((cfg0.win 3).blk t).view.emb y = rowElt (rowOf t) y :=
  eq_rowElt t y _ (block_index t).2.2.1 (Pipeline.Window.rect_emb_val win0_3 t y 0 rfl)
    (Pipeline.Window.rect_emb_val win0_3 t y 1 rfl)

/-- Where grid point `t`'s block of the old first-moment scales sits. -/
theorem place4 (t : Fin cfg0.N) (y : S256x16.Idx) : ((cfg0.win 4).blk t).view.emb y = rowBlk (rowOf t) y :=
  eq_rowBlk t y _ (block_index t).2.2.2.1 (Pipeline.Window.rect_emb_val win0_4 t y 0 rfl)
    (Pipeline.Window.rect_emb_val win0_4 t y 1 rfl)

/-- Where grid point `t`'s block of the old second-moment codes sits. -/
theorem place5 (t : Fin cfg0.N) (y : S256x2048.Idx) : ((cfg0.win 5).blk t).view.emb y = rowElt (rowOf t) y :=
  eq_rowElt t y _ (block_index t).2.2.2.2.1 (Pipeline.Window.rect_emb_val win0_5 t y 0 rfl)
    (Pipeline.Window.rect_emb_val win0_5 t y 1 rfl)

/-- Where grid point `t`'s block of the old second-moment scales sits. -/
theorem place6 (t : Fin cfg0.N) (y : S256x16.Idx) : ((cfg0.win 6).blk t).view.emb y = rowBlk (rowOf t) y :=
  eq_rowBlk t y _ (block_index t).2.2.2.2.2.1 (Pipeline.Window.rect_emb_val win0_6 t y 0 rfl)
    (Pipeline.Window.rect_emb_val win0_6 t y 1 rfl)

/-- Where grid point `t`'s block of the updates sits. -/
theorem place7 (t : Fin cfg0.N) (y : S256x2048.Idx) : ((cfg0.win 7).blk t).view.emb y = rowElt (rowOf t) y :=
  eq_rowElt t y _ (block_index t).2.2.2.2.2.2.1 (Pipeline.Window.rect_emb_val win0_7 t y 0 rfl)
    (Pipeline.Window.rect_emb_val win0_7 t y 1 rfl)

/-- Where grid point `t`'s block of the new first-moment codes sits. -/
theorem place8 (t : Fin cfg0.N) (y : S256x2048.Idx) : ((cfg0.win 8).blk t).view.emb y = rowElt (rowOf t) y :=
  eq_rowElt t y _ (block_index t).2.2.2.2.2.2.2.1 (Pipeline.Window.rect_emb_val win0_8 t y 0 rfl)
    (Pipeline.Window.rect_emb_val win0_8 t y 1 rfl)

/-- Where grid point `t`'s block of the new first-moment scales sits. -/
theorem place9 (t : Fin cfg0.N) (y : S256x16.Idx) : ((cfg0.win 9).blk t).view.emb y = rowBlk (rowOf t) y :=
  eq_rowBlk t y _ (block_index t).2.2.2.2.2.2.2.2.1 (Pipeline.Window.rect_emb_val win0_9 t y 0 rfl)
    (Pipeline.Window.rect_emb_val win0_9 t y 1 rfl)

/-- Where grid point `t`'s block of the new second-moment codes sits. -/
theorem place10 (t : Fin cfg0.N) (y : S256x2048.Idx) : ((cfg0.win 10).blk t).view.emb y = rowElt (rowOf t) y :=
  eq_rowElt t y _ (block_index t).2.2.2.2.2.2.2.2.2.1 (Pipeline.Window.rect_emb_val win0_10 t y 0 rfl)
    (Pipeline.Window.rect_emb_val win0_10 t y 1 rfl)

/-- Where grid point `t`'s block of the new second-moment scales sits. -/
theorem place11 (t : Fin cfg0.N) (y : S256x16.Idx) : ((cfg0.win 11).blk t).view.emb y = rowBlk (rowOf t) y :=
  eq_rowBlk t y _ (block_index t).2.2.2.2.2.2.2.2.2.2 (Pipeline.Window.rect_emb_val win0_11 t y 0 rfl)
    (Pipeline.Window.rect_emb_val win0_11 t y 1 rfl)

/-! ## The blocks a grid point reads -/

variable (m : (ℓ : Loc nD τ sig) → Buf (Elt Ideal) ℓ) (c : Dev nD)

/-- The step counter at launch. -/
abbrev counter : BitVec 32 := m ((c : Thread nD τ).loc main_arg6) (fun a => a.elim0)
/-- The new first moments of the arrays at launch. -/
abbrev firstOf : (Elts 10240).Idx → EReal :=
  firstArr (m ((c : Thread nD τ).loc main_arg2)) (m ((c : Thread nD τ).loc main_arg3)) (m ((c : Thread nD τ).loc main_arg1))
/-- The new second moments of the arrays at launch. -/
abbrev secondOf : (Elts 10240).Idx → EReal :=
  secondArr (m ((c : Thread nD τ).loc main_arg4)) (m ((c : Thread nD τ).loc main_arg5)) (m ((c : Thread nD τ).loc main_arg1))
/-- The kernel's updates of the arrays at launch. -/
abbrev updateOf : (Elts 10240).Idx → EReal :=
  kDeltaArr (counter m c) (m ((c : Thread nD τ).loc main_arg0)) (firstOf m c) (secondOf m c)

variable (t : Fin cfg0.N)

/-- The counter a grid point reads is the counter at launch. -/
theorem counter_read : stepOf (iblk m c 0 t) = counter m c := by
  unfold stepOf iblk
  rfl

/-- A grid point's block of the parameter is its rows of the array at launch. -/
theorem read1 : (iblk m c 1 t : S256x2048.Idx → _) = fun y => m ((c : Thread nD τ).loc main_arg0) (rowElt (rowOf t) y) := by
  funext y
  unfold iblk
  rw [View.read_apply, place1 t y]
  exact congrFun (V_main_arg0 m c) _

/-- A grid point's block of the gradient is its rows of the array at launch. -/
theorem read2 : (iblk m c 2 t : S256x2048.Idx → _) = fun y => m ((c : Thread nD τ).loc main_arg1) (rowElt (rowOf t) y) := by
  funext y
  unfold iblk
  rw [View.read_apply, place2 t y]
  exact congrFun (V_main_arg1 m c) _

/-- A grid point's block of the old first-moment codes is its rows of the array at launch. -/
theorem read3 : (iblk m c 3 t : S256x2048.Idx → _) = fun y => m ((c : Thread nD τ).loc main_arg2) (rowElt (rowOf t) y) := by
  funext y
  unfold iblk
  rw [View.read_apply, place3 t y]
  exact congrFun (V_main_arg2 m c) _

/-- A grid point's block of the old first-moment scales is its rows of the array at launch. -/
theorem read4 : (iblk m c 4 t : S256x16.Idx → _) = fun y => m ((c : Thread nD τ).loc main_arg3) (rowBlk (rowOf t) y) := by
  funext y
  unfold iblk
  rw [View.read_apply, place4 t y]
  exact congrFun (V_main_arg3 m c) _

/-- A grid point's block of the old second-moment codes is its rows of the array at launch. -/
theorem read5 : (iblk m c 5 t : S256x2048.Idx → _) = fun y => m ((c : Thread nD τ).loc main_arg4) (rowElt (rowOf t) y) := by
  funext y
  unfold iblk
  rw [View.read_apply, place5 t y]
  exact congrFun (V_main_arg4 m c) _

/-- A grid point's block of the old second-moment scales is its rows of the array at launch. -/
theorem read6 : (iblk m c 6 t : S256x16.Idx → _) = fun y => m ((c : Thread nD τ).loc main_arg5) (rowBlk (rowOf t) y) := by
  funext y
  unfold iblk
  rw [View.read_apply, place6 t y]
  exact congrFun (V_main_arg5 m c) _

/-! ## The result arrays -/

/-- What a grid point writes back of the updates is its rows of the model's array. -/
theorem flushed7 : (dats m 0 c).flushed 7 t = ((cfg0.win 7).blk t).view.read (Elt Ideal) (updateOf m c) := by
  rw [Value.flushed7_A, out_7, counter_read, read1, read2, read3, read4, read5, read6]
  funext y
  rw [View.read_apply, place7 t y]
  rfl

/-- The array of the updates after the kernel. -/
theorem final7 : (dats m 0 c).arrAt 7 cfg0.N = updateOf m c :=
  (dats m 0 c).arrAt_eq_of_cover 7 (updateOf m c) (fun t _ => flushed7 m c t) fun i => by
    obtain ⟨t, y, rfl⟩ := exists_rowElt i
    refine ⟨t, flush0_7 t, ?_⟩
    rw [← place7 t y]
    exact View.emb_mem_set _ _

/-- What a grid point writes back of the new first-moment codes is its rows of the model's array. -/
theorem flushed8 : (dats m 0 c).flushed 8 t = ((cfg0.win 8).blk t).view.read (Elt Ideal) (codeArr (firstOf m c)) := by
  rw [Value.flushed8_A, out_8, read3, read4, read2]
  funext y
  rw [View.read_apply, place8 t y]
  rfl

/-- The array of the new first-moment codes after the kernel. -/
theorem final8 : (dats m 0 c).arrAt 8 cfg0.N = codeArr (firstOf m c) :=
  (dats m 0 c).arrAt_eq_of_cover 8 (codeArr (firstOf m c)) (fun t _ => flushed8 m c t) fun i => by
    obtain ⟨t, y, rfl⟩ := exists_rowElt i
    refine ⟨t, flush0_8 t, ?_⟩
    rw [← place8 t y]
    exact View.emb_mem_set _ _

/-- What a grid point writes back of the new first-moment scales is its rows of the model's array. -/
theorem flushed9 : (dats m 0 c).flushed 9 t = ((cfg0.win 9).blk t).view.read (Elt Ideal) (scaleArr (firstOf m c)) := by
  rw [Value.flushed9_A, out_9, read3, read4, read2]
  funext y
  rw [View.read_apply, place9 t y]
  rfl

/-- The array of the new first-moment scales after the kernel. -/
theorem final9 : (dats m 0 c).arrAt 9 cfg0.N = scaleArr (firstOf m c) :=
  (dats m 0 c).arrAt_eq_of_cover 9 (scaleArr (firstOf m c)) (fun t _ => flushed9 m c t) fun i => by
    obtain ⟨t, y, rfl⟩ := exists_rowBlk i
    refine ⟨t, flush0_9 t, ?_⟩
    rw [← place9 t y]
    exact View.emb_mem_set _ _

/-- What a grid point writes back of the new second-moment codes is its rows of the model's array. -/
theorem flushed10 : (dats m 0 c).flushed 10 t = ((cfg0.win 10).blk t).view.read (Elt Ideal) (codeArr (secondOf m c)) := by
  rw [Value.flushed10_A, out_10, read5, read6, read2]
  funext y
  rw [View.read_apply, place10 t y]
  rfl

/-- The array of the new second-moment codes after the kernel. -/
theorem final10 : (dats m 0 c).arrAt 10 cfg0.N = codeArr (secondOf m c) :=
  (dats m 0 c).arrAt_eq_of_cover 10 (codeArr (secondOf m c)) (fun t _ => flushed10 m c t) fun i => by
    obtain ⟨t, y, rfl⟩ := exists_rowElt i
    refine ⟨t, flush0_10 t, ?_⟩
    rw [← place10 t y]
    exact View.emb_mem_set _ _

/-- What a grid point writes back of the new second-moment scales is its rows of the model's array. -/
theorem flushed11 : (dats m 0 c).flushed 11 t = ((cfg0.win 11).blk t).view.read (Elt Ideal) (scaleArr (secondOf m c)) := by
  rw [Value.flushed11_A, out_11, read5, read6, read2]
  funext y
  rw [View.read_apply, place11 t y]
  rfl

/-- The array of the new second-moment scales after the kernel. -/
theorem final11 : (dats m 0 c).arrAt 11 cfg0.N = scaleArr (secondOf m c) :=
  (dats m 0 c).arrAt_eq_of_cover 11 (scaleArr (secondOf m c)) (fun t _ => flushed11 m c t) fun i => by
    obtain ⟨t, y, rfl⟩ := exists_rowBlk i
    refine ⟨t, flush0_11 t, ?_⟩
    rw [← place11 t y]
    exact View.emb_mem_set _ _

/-- The kernel's run: the five result arrays at the model's arrays of the arguments, the arguments unchanged. -/
theorem kernel_run (g : Dev nD → PrngReg) : θ_run defs (onTc (τ := τ) (main (F := Ideal))) ⟨m, fun _ => 0, g⟩ fun r => ∀ c : Dev nD,
      r.2.mem ((c : Thread nD τ).loc main_v1_0) = updateOf m c
      ∧ r.2.mem ((c : Thread nD τ).loc main_v1_1) = codeArr (firstOf m c)
      ∧ r.2.mem ((c : Thread nD τ).loc main_v1_2) = scaleArr (firstOf m c)
      ∧ r.2.mem ((c : Thread nD τ).loc main_v1_3) = codeArr (secondOf m c)
      ∧ r.2.mem ((c : Thread nD τ).loc main_v1_4) = scaleArr (secondOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h7, h8, h9, h10, h11, h⟩ := h c
    exact ⟨h7.trans (final7 m c), h8.trans (final8 m c), h9.trans (final9 m c), h10.trans (final10 m c),
      h11.trans (final11 m c), h⟩) (Value.run_blocks m g)

end Cert.Adam

end
-- ==== Proof.RefBlock.lean ====
/- What the reference computes, at an index of its blocked view (row, block, element of the block). -/
module

public import proofs.«01_k».proof.Proof.Model
public import proofs.«01_k».proof.Proof.Gen.ReferenceIdeal.Skeleton
public import Idealize.ShloMosaic.Lib.Pointwise

@[expose] public section

set_option maxRecDepth 16384

noncomputable section

namespace Cert.Adam.Ref

open Idealize.ShloMosaic
open Cert.ReferenceIdeal Cert.ReferenceIdeal.Gen

/-! ## The named constants -/

/-- The reference's `-lr` is exact. -/
theorem named_neg_lr : (Named.named (F := Ideal) (φ := .f32) κ "neg_lr" 0xBA83126F#32 : EReal) = ((-1 / 1000 : ℝ) : EReal) :=
  IdealRules.named_const.ideal_named_scalar _ _ _ _ rfl

/-- The reference's weight decay is exact. -/
theorem named_wd : (Named.named (F := Ideal) (φ := .f32) κ "wd" 0x3C23D70A#32 : EReal) = ((1 / 100 : ℝ) : EReal) :=
  IdealRules.named_const.ideal_named_scalar _ _ _ _ rfl

/-! ## The blocked view -/

/-- The block of an element of a block is that block. -/
theorem blockOf_elemOf (z : (Blks 10240).Idx) (l : Fin 128) : blockOf (elemOf z l) = z := by
  funext a
  apply Fin.ext
  match a with
  | ⟨0, _⟩ => rfl
  | ⟨1, _⟩ =>
    have hl := l.isLt
    show (128 * (z 1).val + l.val) / 128 = (z 1).val
    omega

variable (r : Fin 10240) (b : Fin 16) (l : Fin 128)

/-- Element `l` of block `b`, as the blocked view lays it out. -/
theorem elem_eq (h : b.val * 128 + l.val < 2048) : (ix2 r ⟨b.val * 128 + l.val, h⟩ : (Elts 10240).Idx) = elemOf (ix2 r b) l :=
  congrArg (ix2 r) (Fin.ext (congrArg (· + l.val) (Nat.mul_comm _ _)))

/-- The literal 127. -/
theorem lit_127 : Ideal.ofBits .f32 0x42FE0000#32 = ((127 : ℝ) : EReal) := by
  simp [Ideal.ofBits, Ideal.ieee, -EReal.coe_mul]; norm_num

/-- Dividing by 127 is multiplying by its reciprocal. -/
theorem div_127 (x : EReal) : Ideal.div x (Ideal.ofBits .f32 0x42FE0000#32) = x * ((1 / 127 : ℝ) : EReal) := by
  rw [lit_127]
  exact Ideal.div_coe (by norm_num : (127 : ℝ) ≠ 0) x

/-- The new first moments of the blocked view. -/
theorem first_apply (cd : Vec Ideal S10240x2048 .i8) (sc : Vec Ideal S10240x16 .f32) (g : Vec Ideal S10240x2048 .bf16) :
    k0_pay6 cd sc g (ix3 r b l) = firstArr cd sc g (elemOf (ix2 r b) l) := by
  unfold firstArr
  rw [blockOf_elemOf]
  pointwise [k0_pay6, k0_pay5]
  rw [elem_eq]
  rfl

/-- The new second moments of the blocked view. -/
theorem second_apply (cd : Vec Ideal S10240x2048 .i8) (sc : Vec Ideal S10240x16 .f32) (g : Vec Ideal S10240x2048 .bf16) :
    k0_pay7 cd sc g (ix3 r b l) = secondArr cd sc g (elemOf (ix2 r b) l) := by
  unfold secondArr
  rw [blockOf_elemOf]
  pointwise [k0_pay7, k0_pay5]
  rw [elem_eq]
  rfl

/-- The reduction of each block of the blocked view to its largest entry. -/
theorem fold_apply (u : FVec Ideal S10240x16x128 .f32) :
    multiReduction .maximumf [2] S10240x16 u 0xFF800000#32 reduces_S10240x16x128_S10240x16 (.inl rfl) rfl (ix2 r b)
      = Finset.univ.fold max (lit 0xFF800000#32) fun k => u (ix3 r b k) := by
  pointwise

/-- The largest magnitudes of the blocks of the blocked view. -/
def peaks (u : FVec Ideal S10240x16x128 .f32) : FVec Ideal S10240x16 .f32 :=
  multiReduction .maximumf [2] S10240x16 (absf u) 0xFF800000#32 reduces_S10240x16x128_S10240x16 (.inl rfl) rfl

/-- The largest magnitude of block `b` of row `r`. -/
theorem peaks_apply (u : FVec Ideal S10240x16x128 .f32) : peaks u (ix2 r b) = peak fun k => u (ix3 r b k) := by
  unfold peaks
  rw [fold_apply]
  rfl

/-- Scales from largest magnitudes: over 127, or 1 where that is zero. -/
def scalesOf (p : FVec Ideal S10240x16 .f32) : FVec Ideal S10240x16 .f32 :=
  select (cmpf .oeq p (broadcast S10240x16 (Scalar.ofBits .f32 0x00000000#32)))
    (broadcast S10240x16 (Scalar.ofBits .f32 0x3F800000#32))
    (divf p (broadcast S10240x16 (Scalar.ofBits .f32 0x42FE0000#32)))

/-- The scale of one block from its largest magnitude. -/
theorem scalesOf_apply (p : FVec Ideal S10240x16 .f32) :
    scalesOf p (ix2 r b) = if p (ix2 r b) = 0 then 1 else p (ix2 r b) * ((1 / 127 : ℝ) : EReal) := by
  pointwise [scalesOf]
  rw [div_127]

/-- The first moments' scales are the scales of their blocks' largest magnitudes. -/
theorem pay11_eq (u : FVec Ideal S10240x16x128 .f32) : k0_pay11 u = scalesOf (peaks u) := rfl

/-- So are the second moments'. -/
theorem pay13_eq (u : FVec Ideal S10240x16x128 .f32) : k0_pay13 u = scalesOf (peaks u) := rfl

/-- The scale of a block of the blocked view. -/
theorem scale_apply (u : FVec Ideal S10240x16x128 .f32) :
    scalesOf (peaks u) (ix2 r b) = blockScale fun k => u (ix3 r b k) := by
  rw [scalesOf_apply, peaks_apply]
  rfl

/-- Codes of entries `u` under block scales `s`. -/
def codesOf (u : FVec Ideal S10240x16x128 .f32) (s : FVec Ideal S10240x16 .f32) : IVec S10240x16x128 8 :=
  fptosi 8 (minimumf (broadcast S10240x16x128 (Scalar.ofBits .f32 0x42FE0000#32))
    (maximumf (broadcast S10240x16x128 (Scalar.ofBits .f32 0xC2FE0000#32))
      (roundeven (divf u (broadcastTo S10240x16x128 (shapeCast S10240x16x1 s shapeCasts_S10240x16_S10240x16x1)
        broadcasts_S10240x16x1_S10240x16x128)))))

/-- The code of one entry. -/
theorem codesOf_apply (u : FVec Ideal S10240x16x128 .f32) (s : FVec Ideal S10240x16 .f32) :
    codesOf u s (ix3 r b l) = quantise (u (ix3 r b l)) (s (ix2 r b)) := by
  pointwise [codesOf]
  rfl

/-- The first moments' codes. -/
theorem pay12_eq (u : FVec Ideal S10240x16x128 .f32) : k0_pay12 u = codesOf u (scalesOf (peaks u)) := rfl

/-- The second moments' codes, put back in rows. -/
theorem pay3_eq (u : FVec Ideal S10240x16x128 .f32) :
    k0_pay3 (Scalar.ofBits (F := Ideal) .f32 0x42FE0000#32) (k0_pay14 u) = k0_pay2 (codesOf u (scalesOf (peaks u))) := rfl

/-- The updates of the blocked view, from the new moments `m`, `v`. -/
theorem delta_apply (n : BitVec 32) (cd : Vec Ideal S10240x2048 .i8) (sc : Vec Ideal S10240x16 .f32) (g : Vec Ideal S10240x2048 .bf16)
    (v : FVec Ideal S10240x16x128 .f32) (p : Vec Ideal S10240x2048 .f32) :
    k0_pay10 v (k0_pay8 n cd sc g) (k0_pay9 n) p (ix3 r b l)
      = rDelta n (p (elemOf (ix2 r b) l)) (firstArr cd sc g (elemOf (ix2 r b) l)) (v (ix3 r b l)) := by
  rw [← first_apply]
  pointwise [k0_pay10, k0_pay9, k0_pay8, k0_pay4, named_wd, named_neg_lr]
  rw [elem_eq]
  rfl

/-! ## Back to rows of elements -/

/-- An array in rows, read from the blocked view `u`. -/
theorem rows_apply {α : Type} (u : S10240x16x128.Idx → α) (h : S10240x16x128.ShapeCasts S10240x2048) (b : Fin 16) :
    shapeCast S10240x2048 u h (elemOf (ix2 r b) l) = u (ix3 r b l) := by
  unfold elemOf
  pointwise

/-- Every element lies in its block. -/
theorem exists_elemOf (y : (Elts 10240).Idx) : ∃ (r : Fin 10240) (b : Fin 16) (l : Fin 128), elemOf (ix2 r b) l = y := by
  have h := (y 1).isLt
  have hy : (y 1).val < 2048 := h
  refine ⟨y 0, ⟨(y 1).val / 128, by omega⟩, ⟨(y 1).val % 128, by omega⟩, ?_⟩
  funext a
  apply Fin.ext
  match a with
  | ⟨0, _⟩ => rfl
  | ⟨1, _⟩ => exact Nat.div_add_mod _ _

/-! ## The five result arrays -/

/-- Scales of a blocked view of an array `U` are the model's scales of `U`. -/
theorem scales_eq (u : FVec Ideal S10240x16x128 .f32) (U : (Elts 10240).Idx → EReal)
    (h : ∀ r b l, u (ix3 r b l) = U (elemOf (ix2 r b) l)) : scalesOf (peaks u) = scaleArr U := by
  funext z
  have e : ∀ (r : Fin 10240) (b : Fin 16), scalesOf (peaks u) (ix2 r b) = scaleArr U (ix2 r b) := fun r b => by
    rw [scale_apply]
    unfold scaleArr
    simp only [h]
  rw [eq_ix2 z]
  exact e _ _

/-- Codes of a blocked view of an array `U` are the model's codes of `U`. -/
theorem codes_eq (u : FVec Ideal S10240x16x128 .f32) (U : (Elts 10240).Idx → EReal)
    (h : ∀ r b l, u (ix3 r b l) = U (elemOf (ix2 r b) l)) :
    k0_pay2 (codesOf u (scalesOf (peaks u))) = codeArr U := by
  funext y
  obtain ⟨r, b, l, rfl⟩ := exists_elemOf y
  unfold k0_pay2 codeArr
  rw [rows_apply, codesOf_apply, scales_eq u U h, h, blockOf_elemOf]

variable (n : BitVec 32) (x1 : Vec Ideal S10240x2048 .f32) (x2 : Vec Ideal S10240x2048 .bf16) (x3 : Vec Ideal S10240x2048 .i8)
  (x4 : Vec Ideal S10240x16 .f32) (x5 : Vec Ideal S10240x2048 .i8) (x6 : Vec Ideal S10240x16 .f32)

/-- The reference's updates. -/
theorem result_delta : k0_pay1 (k0_pay10 (k0_pay7 x5 x6 x2) (k0_pay8 n x3 x4 x2) (k0_pay9 n) x1)
    = rDeltaArr n x1 (firstArr x3 x4 x2) (secondArr x5 x6 x2) := by
  funext y
  obtain ⟨r, b, l, rfl⟩ := exists_elemOf y
  unfold k0_pay1 rDeltaArr
  rw [rows_apply, delta_apply, second_apply]

/-- The reference's new first-moment codes. -/
theorem result_first_code : k0_pay2 (k0_pay12 (k0_pay6 x3 x4 x2)) = codeArr (firstArr x3 x4 x2) := by
  rw [pay12_eq]
  exact codes_eq _ _ fun r b l => first_apply r b l x3 x4 x2

/-- The reference's new first-moment scales. -/
theorem result_first_scale : k0_pay11 (k0_pay6 x3 x4 x2) = scaleArr (firstArr x3 x4 x2) := by
  rw [pay11_eq]
  exact scales_eq _ _ fun r b l => first_apply r b l x3 x4 x2

/-- The reference's new second-moment codes. -/
theorem result_second_code : k0_pay3 (Scalar.ofBits (F := Ideal) .f32 0x42FE0000#32) (k0_pay14 (k0_pay7 x5 x6 x2))
    = codeArr (secondArr x5 x6 x2) := by
  rw [pay3_eq]
  exact codes_eq _ _ fun r b l => second_apply r b l x5 x6 x2

/-- The reference's new second-moment scales. -/
theorem result_second_scale : k0_pay13 (k0_pay7 x5 x6 x2) = scaleArr (secondArr x5 x6 x2) := by
  rw [pay13_eq]
  exact scales_eq _ _ fun r b l => second_apply r b l x5 x6 x2

end Cert.Adam.Ref

end
-- ==== Proof.RefWhole.lean ====
/- The whole reference: its one body leaves the model's arrays of the argument arrays in the five results. -/
module

public import proofs.«01_k».proof.Proof.RefBlock
public import proofs.«01_k».proof.Proof.Gen.ReferenceIdeal.Value
public import Idealize.ShloMosaic.Lib.WholeRead
public import Idealize.ShloMosaic.Lib.Pipeline.Value
public import Idealize.ShloMosaic.Lib.Pipeline.ValueKit.Tiles

@[expose] public section

set_option maxRecDepth 16384

noncomputable section

namespace Cert.Adam.Ref

open Idealize.ShloMosaic Idealize.ShloMosaic.TcCoe Idealize.ShloMosaic.Tactic
open Idealize.SL Idealize.SL.Sem
open Cert.ReferenceIdeal Cert.ReferenceIdeal.Gen
open Idealize.ShloMosaic.Pipeline (Dat)

/-! ## What the body leaves in its five results' buffers -/

/-- The one entry of the step-counter array. -/
def stepOf (x : Vec Ideal S1 .i32) : BitVec 32 := x (Shape.Idx.first (s := S1) (by decide))

/-- There is one index into the step-counter array. -/
theorem counter_idx (a b : S1.Idx) : a = b := by
  funext k
  match k with
  | ⟨0, _⟩ => exact Subsingleton.elim (α := Fin 1) (a 0) (b 0)

/-- A rectangle that is all of an array of elements keeps every index. -/
theorem all_elt (inb : ∀ a, (![0, 0] : Fin 2 → Nat) a + S10240x2048.size a ≤ S10240x2048.size a) (x : S10240x2048.Idx) :
    (Rect.unit (s := S10240x2048) ![0, 0] S10240x2048.size inb).idx x = x := by
  funext a
  apply Fin.ext
  rw [Rect.idx_unit_val]
  match a with
  | ⟨0, _⟩ => exact Nat.zero_add _
  | ⟨1, _⟩ => exact Nat.zero_add _

/-- A rectangle that is all of an array of scales keeps every index. -/
theorem all_blk (inb : ∀ a, (![0, 0] : Fin 2 → Nat) a + S10240x16.size a ≤ S10240x16.size a) (x : S10240x16.Idx) :
    (Rect.unit (s := S10240x16) ![0, 0] S10240x16.size inb).idx x = x := by
  funext a
  apply Fin.ext
  rw [Rect.idx_unit_val]
  match a with
  | ⟨0, _⟩ => exact Nat.zero_add _
  | ⟨1, _⟩ => exact Nat.zero_add _

/-- A load of all of an array of elements reads the array. -/
theorem load_elt {κ : Kind} {sp : Space} {e : EltTy} {m : Memref sig κ sp S10240x2048 e} (h : m.IsWhole)
    (X : S10240x2048.Idx → Elt Ideal e) (inb) :
    View.readAt (Elt Ideal) m.view (Rect.unit (s := S10240x2048) ![0, 0] S10240x2048.size inb).toLoadRect (h.unread X) = X :=
  funext fun x => (h.readAt_unread X _ x).trans (congrArg X (all_elt inb x))

/-- A load of all of an array of scales reads the array. -/
theorem load_blk {κ : Kind} {sp : Space} {e : EltTy} {m : Memref sig κ sp S10240x16 e} (h : m.IsWhole)
    (X : S10240x16.Idx → Elt Ideal e) (inb) :
    View.readAt (Elt Ideal) m.view (Rect.unit (s := S10240x16) ![0, 0] S10240x16.size inb).toLoadRect (h.unread X) = X :=
  funext fun x => (h.readAt_unread X _ x).trans (congrArg X (all_blk inb x))

/-- One store of all of an array of elements, with the right values, writes the array. -/
theorem piece_elt {e : EltTy} (G P : S10240x2048.Idx → Elt Ideal e) (inb) (h : P = G) :
    ∀ p ∈ [(⟨Rect.unit (s := S10240x2048) ![0, 0] S10240x2048.size inb, P⟩ : View.Piece (Elt Ideal) S10240x2048 e)],
      ∀ x, p.2 x = G (p.1.emb x) :=
  List.forall_mem_cons.2 ⟨fun x => (congrFun h x).trans (congrArg G (all_elt inb x).symm), List.forall_mem_nil _⟩

/-- One store of all of an array of scales, with the right values, writes the array. -/
theorem piece_blk {e : EltTy} (G P : S10240x16.Idx → Elt Ideal e) (inb) (h : P = G) :
    ∀ p ∈ [(⟨Rect.unit (s := S10240x16) ![0, 0] S10240x16.size inb, P⟩ : View.Piece (Elt Ideal) S10240x16 e)],
      ∀ x, p.2 x = G (p.1.emb x) :=
  List.forall_mem_cons.2 ⟨fun x => (congrFun h x).trans (congrArg G (all_blk inb x).symm), List.forall_mem_nil _⟩

variable (c : Dev nD) (arg0 : Memref sig .tc .smem S1 .i32) (harg0 : arg0.IsWhole) (arg1 : Memref sig .tc .vmem S10240x2048 .f32) (harg1 : arg1.IsWhole) (arg2 : Memref sig .tc .vmem S10240x2048 .bf16) (harg2 : arg2.IsWhole) (arg3 : Memref sig .tc .vmem S10240x2048 .i8) (harg3 : arg3.IsWhole) (arg4 : Memref sig .tc .vmem S10240x16 .f32) (harg4 : arg4.IsWhole) (arg5 : Memref sig .tc .vmem S10240x2048 .i8) (harg5 : arg5.IsWhole) (arg6 : Memref sig .tc .vmem S10240x16 .f32) (harg6 : arg6.IsWhole) (arg7 : Memref sig .tc .vmem S10240x2048 .f32) (harg7 : arg7.IsWhole) (arg8 : Memref sig .tc .vmem S10240x2048 .i8) (harg8 : arg8.IsWhole) (arg9 : Memref sig .tc .vmem S10240x16 .f32) (harg9 : arg9.IsWhole) (arg10 : Memref sig .tc .vmem S10240x2048 .i8) (harg10 : arg10.IsWhole) (arg11 : Memref sig .tc .vmem S10240x16 .f32) (harg11 : arg11.IsWhole)
  (x0 : Vec Ideal S1 .i32) (x1 : Vec Ideal S10240x2048 .f32) (x2 : Vec Ideal S10240x2048 .bf16) (x3 : Vec Ideal S10240x2048 .i8) (x4 : Vec Ideal S10240x16 .f32) (x5 : Vec Ideal S10240x2048 .i8) (x6 : Vec Ideal S10240x16 .f32)

/-- The counter the body loads. -/
theorem load_counter (pos) (inb) :
    View.readAt (Elt Ideal) arg0.view (Rect.unit (s := S1) ![0] S1.size inb).toLoadRect (harg0.unread x0)
      (Shape.Idx.first (s := S1) pos) = stepOf x0 :=
  (harg0.readAt_unread x0 _ _).trans (congrArg x0 (counter_idx _ _))

/-- The array of updates the body leaves. -/
theorem out_7 : out0_A_7 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = rDeltaArr (stepOf x0) x1 (firstArr x3 x4 x2) (secondArr x5 x6 x2) := by
  funext y
  unfold out0_A_7
  refine View.read_writes_apply_of_pieces VO0_7 VO0_7.junk (rDeltaArr (stepOf x0) x1 (firstArr x3 x4 x2) (secondArr x5 x6 x2)) _ ?_ y (cover0_A_7 c arg0 harg0 arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_run_names
  refine piece_elt _ _ _ ?_
  rw [load_elt harg2 x2, load_elt harg3 x3, load_blk harg4 x4, load_elt harg5 x5, load_blk harg6 x6, load_elt harg1 x1, load_counter arg0 harg0 x0]
  exact result_delta (stepOf x0) x1 x2 x3 x4 x5 x6

/-- The array of new first-moment codes the body leaves. -/
theorem out_8 : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = codeArr (firstArr x3 x4 x2) := by
  funext y
  unfold out0_A_8
  refine View.read_writes_apply_of_pieces VO0_8 VO0_8.junk (codeArr (firstArr x3 x4 x2)) _ ?_ y (cover0_A_8 c arg0 harg0 arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_run_names
  refine piece_elt _ _ _ ?_
  rw [load_elt harg2 x2, load_elt harg3 x3, load_blk harg4 x4]
  exact result_first_code x2 x3 x4

/-- The array of new first-moment scales the body leaves. -/
theorem out_9 : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = scaleArr (firstArr x3 x4 x2) := by
  funext y
  unfold out0_A_9
  refine View.read_writes_apply_of_pieces VO0_9 VO0_9.junk (scaleArr (firstArr x3 x4 x2)) _ ?_ y (cover0_A_9 c arg0 harg0 arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_run_names
  refine piece_blk _ _ _ ?_
  rw [load_elt harg2 x2, load_elt harg3 x3, load_blk harg4 x4]
  exact result_first_scale x2 x3 x4

/-- The array of new second-moment codes the body leaves. -/
theorem out_10 : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = codeArr (secondArr x5 x6 x2) := by
  funext y
  unfold out0_A_10
  refine View.read_writes_apply_of_pieces VO0_10 VO0_10.junk (codeArr (secondArr x5 x6 x2)) _ ?_ y (cover0_A_10 c arg0 harg0 arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_run_names
  refine piece_elt _ _ _ ?_
  rw [load_elt harg2 x2, load_elt harg5 x5, load_blk harg6 x6]
  exact result_second_code x2 x5 x6

/-- The array of new second-moment scales the body leaves. -/
theorem out_11 : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 = scaleArr (secondArr x5 x6 x2) := by
  funext y
  unfold out0_A_11
  refine View.read_writes_apply_of_pieces VO0_11 VO0_11.junk (scaleArr (secondArr x5 x6 x2)) _ ?_ y (cover0_A_11 c arg0 harg0 arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_run_names
  refine piece_blk _ _ _ ?_
  rw [load_elt harg2 x2, load_elt harg5 x5, load_blk harg6 x6]
  exact result_second_scale x2 x5 x6

/-! ## The one point's blocks are the arrays -/

/-- An index whose coordinates are those of the first block at `y` is `y`. -/
theorem eq_elt (y e : (Elts 10240).Idx) {j0 j1 : Nat} (hj : j0 = 0 ∧ j1 = 0)
    (h0 : (e 0).val = j0 * 10240 + (y 0).val) (h1 : (e 1).val = j1 * 2048 + (y 1).val) : e = y := by
  obtain ⟨rfl, rfl⟩ := hj
  funext a
  apply Fin.ext
  match a with
  | ⟨0, _⟩ =>
    rw [Nat.zero_mul, Nat.zero_add] at h0
    exact h0
  | ⟨1, _⟩ =>
    rw [Nat.zero_mul, Nat.zero_add] at h1
    exact h1

/-- The same for the arrays of scales. -/
theorem eq_blk (y e : (Blks 10240).Idx) {j0 j1 : Nat} (hj : j0 = 0 ∧ j1 = 0)
    (h0 : (e 0).val = j0 * 10240 + (y 0).val) (h1 : (e 1).val = j1 * 16 + (y 1).val) : e = y := by
  obtain ⟨rfl, rfl⟩ := hj
  funext a
  apply Fin.ext
  match a with
  | ⟨0, _⟩ =>
    rw [Nat.zero_mul, Nat.zero_add] at h0
    exact h0
  | ⟨1, _⟩ =>
    rw [Nat.zero_mul, Nat.zero_add] at h1
    exact h1

/-- Every window but the counter's stages its whole array. -/
theorem block_index : ∀ t : Fin cfg0.N, (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0) :=
  (by decide +kernel : ∀ t : Fin grid0.N, (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0))

/-- The block of the parameter is the array. -/
theorem place1 (t : Fin cfg0.N) (y : S10240x2048.Idx) : ((cfg0.win 1).blk t).view.emb y = y :=
  eq_elt y _ (block_index t).1 (Pipeline.Window.rect_emb_val win0_1 t y 0 rfl)
    (Pipeline.Window.rect_emb_val win0_1 t y 1 rfl)

/-- The block of the gradient is the array. -/
theorem place2 (t : Fin cfg0.N) (y : S10240x2048.Idx) : ((cfg0.win 2).blk t).view.emb y = y :=
  eq_elt y _ (block_index t).2.1 (Pipeline.Window.rect_emb_val win0_2 t y 0 rfl)
    (Pipeline.Window.rect_emb_val win0_2 t y 1 rfl)

/-- The block of the old first-moment codes is the array. -/
theorem place3 (t : Fin cfg0.N) (y : S10240x2048.Idx) : ((cfg0.win 3).blk t).view.emb y = y :=
  eq_elt y _ (block_index t).2.2.1 (Pipeline.Window.rect_emb_val win0_3 t y 0 rfl)
    (Pipeline.Window.rect_emb_val win0_3 t y 1 rfl)

/-- The block of the old first-moment scales is the array. -/
theorem place4 (t : Fin cfg0.N) (y : S10240x16.Idx) : ((cfg0.win 4).blk t).view.emb y = y :=
  eq_blk y _ (block_index t).2.2.2.1 (Pipeline.Window.rect_emb_val win0_4 t y 0 rfl)
    (Pipeline.Window.rect_emb_val win0_4 t y 1 rfl)

/-- The block of the old second-moment codes is the array. -/
theorem place5 (t : Fin cfg0.N) (y : S10240x2048.Idx) : ((cfg0.win 5).blk t).view.emb y = y :=
  eq_elt y _ (block_index t).2.2.2.2.1 (Pipeline.Window.rect_emb_val win0_5 t y 0 rfl)
    (Pipeline.Window.rect_emb_val win0_5 t y 1 rfl)

/-- The block of the old second-moment scales is the array. -/
theorem place6 (t : Fin cfg0.N) (y : S10240x16.Idx) : ((cfg0.win 6).blk t).view.emb y = y :=
  eq_blk y _ (block_index t).2.2.2.2.2.1 (Pipeline.Window.rect_emb_val win0_6 t y 0 rfl)
    (Pipeline.Window.rect_emb_val win0_6 t y 1 rfl)

/-- The block of the updates is the array. -/
theorem place7 (t : Fin cfg0.N) (y : S10240x2048.Idx) : ((cfg0.win 7).blk t).view.emb y = y :=
  eq_elt y _ (block_index t).2.2.2.2.2.2.1 (Pipeline.Window.rect_emb_val win0_7 t y 0 rfl)
    (Pipeline.Window.rect_emb_val win0_7 t y 1 rfl)

/-- The block of the new first-moment codes is the array. -/
theorem place8 (t : Fin cfg0.N) (y : S10240x2048.Idx) : ((cfg0.win 8).blk t).view.emb y = y :=
  eq_elt y _ (block_index t).2.2.2.2.2.2.2.1 (Pipeline.Window.rect_emb_val win0_8 t y 0 rfl)
    (Pipeline.Window.rect_emb_val win0_8 t y 1 rfl)

/-- The block of the new first-moment scales is the array. -/
theorem place9 (t : Fin cfg0.N) (y : S10240x16.Idx) : ((cfg0.win 9).blk t).view.emb y = y :=
  eq_blk y _ (block_index t).2.2.2.2.2.2.2.2.1 (Pipeline.Window.rect_emb_val win0_9 t y 0 rfl)
    (Pipeline.Window.rect_emb_val win0_9 t y 1 rfl)

/-- The block of the new second-moment codes is the array. -/
theorem place10 (t : Fin cfg0.N) (y : S10240x2048.Idx) : ((cfg0.win 10).blk t).view.emb y = y :=
  eq_elt y _ (block_index t).2.2.2.2.2.2.2.2.2.1 (Pipeline.Window.rect_emb_val win0_10 t y 0 rfl)
    (Pipeline.Window.rect_emb_val win0_10 t y 1 rfl)

/-- The block of the new second-moment scales is the array. -/
theorem place11 (t : Fin cfg0.N) (y : S10240x16.Idx) : ((cfg0.win 11).blk t).view.emb y = y :=
  eq_blk y _ (block_index t).2.2.2.2.2.2.2.2.2.2 (Pipeline.Window.rect_emb_val win0_11 t y 0 rfl)
    (Pipeline.Window.rect_emb_val win0_11 t y 1 rfl)

variable (m : (ℓ : Loc nD τ sig) → Buf (Elt Ideal) ℓ)

/-- The step counter at launch. -/
abbrev counter : BitVec 32 := m ((c : Thread nD τ).loc main_arg6) (fun a => a.elim0)
/-- The new first moments of the arrays at launch. -/
abbrev firstOf : (Elts 10240).Idx → EReal :=
  firstArr (m ((c : Thread nD τ).loc main_arg2)) (m ((c : Thread nD τ).loc main_arg3)) (m ((c : Thread nD τ).loc main_arg1))
/-- The new second moments of the arrays at launch. -/
abbrev secondOf : (Elts 10240).Idx → EReal :=
  secondArr (m ((c : Thread nD τ).loc main_arg4)) (m ((c : Thread nD τ).loc main_arg5)) (m ((c : Thread nD τ).loc main_arg1))
/-- The reference's updates of the arrays at launch. -/
abbrev updateOf : (Elts 10240).Idx → EReal :=
  rDeltaArr (counter c m) (m ((c : Thread nD τ).loc main_arg0)) (firstOf c m) (secondOf c m)

variable (t : Fin cfg0.N)

/-- The counter the body reads is the counter at launch. -/
theorem counter_read : stepOf (iblk m c 0 t) = counter c m := by
  unfold stepOf iblk
  rfl

/-- The body's block of the parameter is the array at launch. -/
theorem read1 : (iblk m c 1 t : S10240x2048.Idx → _) = m ((c : Thread nD τ).loc main_arg0) := by
  funext y
  unfold iblk
  rw [View.read_apply, place1 t y]
  exact congrFun (V_main_arg0 m c) _

/-- The body's block of the gradient is the array at launch. -/
theorem read2 : (iblk m c 2 t : S10240x2048.Idx → _) = m ((c : Thread nD τ).loc main_arg1) := by
  funext y
  unfold iblk
  rw [View.read_apply, place2 t y]
  exact congrFun (V_main_arg1 m c) _

/-- The body's block of the old first-moment codes is the array at launch. -/
theorem read3 : (iblk m c 3 t : S10240x2048.Idx → _) = m ((c : Thread nD τ).loc main_arg2) := by
  funext y
  unfold iblk
  rw [View.read_apply, place3 t y]
  exact congrFun (V_main_arg2 m c) _

/-- The body's block of the old first-moment scales is the array at launch. -/
theorem read4 : (iblk m c 4 t : S10240x16.Idx → _) = m ((c : Thread nD τ).loc main_arg3) := by
  funext y
  unfold iblk
  rw [View.read_apply, place4 t y]
  exact congrFun (V_main_arg3 m c) _

/-- The body's block of the old second-moment codes is the array at launch. -/
theorem read5 : (iblk m c 5 t : S10240x2048.Idx → _) = m ((c : Thread nD τ).loc main_arg4) := by
  funext y
  unfold iblk
  rw [View.read_apply, place5 t y]
  exact congrFun (V_main_arg4 m c) _

/-- The body's block of the old second-moment scales is the array at launch. -/
theorem read6 : (iblk m c 6 t : S10240x16.Idx → _) = m ((c : Thread nD τ).loc main_arg5) := by
  funext y
  unfold iblk
  rw [View.read_apply, place6 t y]
  exact congrFun (V_main_arg5 m c) _

/-! ## The result arrays -/

/-- What the body writes back of the updates is the model's array. -/
theorem flushed7 : (dats m 0 c).flushed 7 t = ((cfg0.win 7).blk t).view.read (Elt Ideal) (updateOf c m) := by
  rw [Value.flushed7_A, out_7, counter_read, read1, read2, read3, read4, read5, read6]
  funext y
  rw [View.read_apply, place7 t y]
  rfl

/-- The array of the updates after the reference. -/
theorem final7 : (dats m 0 c).arrAt 7 cfg0.N = updateOf c m :=
  (dats m 0 c).arrAt_eq_of_cover 7 (updateOf c m) (fun t _ => flushed7 c m t) fun i => by
    refine ⟨⟨0, Nat.lt_of_lt_of_eq Nat.one_pos N_0.symm⟩, flush0_7 _, ?_⟩
    have h := View.emb_mem_set ((cfg0.win 7).blk ⟨0, Nat.lt_of_lt_of_eq Nat.one_pos N_0.symm⟩).view i
    rw [place7 _ i] at h
    exact h

/-- What the body writes back of the new first-moment codes is the model's array. -/
theorem flushed8 : (dats m 0 c).flushed 8 t = ((cfg0.win 8).blk t).view.read (Elt Ideal) (codeArr (firstOf c m)) := by
  rw [Value.flushed8_A, out_8, read3, read4, read2]
  funext y
  rw [View.read_apply, place8 t y]
  rfl

/-- The array of the new first-moment codes after the reference. -/
theorem final8 : (dats m 0 c).arrAt 8 cfg0.N = codeArr (firstOf c m) :=
  (dats m 0 c).arrAt_eq_of_cover 8 (codeArr (firstOf c m)) (fun t _ => flushed8 c m t) fun i => by
    refine ⟨⟨0, Nat.lt_of_lt_of_eq Nat.one_pos N_0.symm⟩, flush0_8 _, ?_⟩
    have h := View.emb_mem_set ((cfg0.win 8).blk ⟨0, Nat.lt_of_lt_of_eq Nat.one_pos N_0.symm⟩).view i
    rw [place8 _ i] at h
    exact h

/-- What the body writes back of the new first-moment scales is the model's array. -/
theorem flushed9 : (dats m 0 c).flushed 9 t = ((cfg0.win 9).blk t).view.read (Elt Ideal) (scaleArr (firstOf c m)) := by
  rw [Value.flushed9_A, out_9, read3, read4, read2]
  funext y
  rw [View.read_apply, place9 t y]
  rfl

/-- The array of the new first-moment scales after the reference. -/
theorem final9 : (dats m 0 c).arrAt 9 cfg0.N = scaleArr (firstOf c m) :=
  (dats m 0 c).arrAt_eq_of_cover 9 (scaleArr (firstOf c m)) (fun t _ => flushed9 c m t) fun i => by
    refine ⟨⟨0, Nat.lt_of_lt_of_eq Nat.one_pos N_0.symm⟩, flush0_9 _, ?_⟩
    have h := View.emb_mem_set ((cfg0.win 9).blk ⟨0, Nat.lt_of_lt_of_eq Nat.one_pos N_0.symm⟩).view i
    rw [place9 _ i] at h
    exact h

/-- What the body writes back of the new second-moment codes is the model's array. -/
theorem flushed10 : (dats m 0 c).flushed 10 t = ((cfg0.win 10).blk t).view.read (Elt Ideal) (codeArr (secondOf c m)) := by
  rw [Value.flushed10_A, out_10, read5, read6, read2]
  funext y
  rw [View.read_apply, place10 t y]
  rfl

/-- The array of the new second-moment codes after the reference. -/
theorem final10 : (dats m 0 c).arrAt 10 cfg0.N = codeArr (secondOf c m) :=
  (dats m 0 c).arrAt_eq_of_cover 10 (codeArr (secondOf c m)) (fun t _ => flushed10 c m t) fun i => by
    refine ⟨⟨0, Nat.lt_of_lt_of_eq Nat.one_pos N_0.symm⟩, flush0_10 _, ?_⟩
    have h := View.emb_mem_set ((cfg0.win 10).blk ⟨0, Nat.lt_of_lt_of_eq Nat.one_pos N_0.symm⟩).view i
    rw [place10 _ i] at h
    exact h

/-- What the body writes back of the new second-moment scales is the model's array. -/
theorem flushed11 : (dats m 0 c).flushed 11 t = ((cfg0.win 11).blk t).view.read (Elt Ideal) (scaleArr (secondOf c m)) := by
  rw [Value.flushed11_A, out_11, read5, read6, read2]
  funext y
  rw [View.read_apply, place11 t y]
  rfl

/-- The array of the new second-moment scales after the reference. -/
theorem final11 : (dats m 0 c).arrAt 11 cfg0.N = scaleArr (secondOf c m) :=
  (dats m 0 c).arrAt_eq_of_cover 11 (scaleArr (secondOf c m)) (fun t _ => flushed11 c m t) fun i => by
    refine ⟨⟨0, Nat.lt_of_lt_of_eq Nat.one_pos N_0.symm⟩, flush0_11 _, ?_⟩
    have h := View.emb_mem_set ((cfg0.win 11).blk ⟨0, Nat.lt_of_lt_of_eq Nat.one_pos N_0.symm⟩).view i
    rw [place11 _ i] at h
    exact h

/-- The reference's run: the five result arrays at the model's arrays of the arguments, the arguments unchanged. -/
theorem reference_run (g : Dev nD → PrngReg) : θ_run defs (onTc (τ := τ) (main (F := Ideal))) ⟨m, fun _ => 0, g⟩ fun r => ∀ c : Dev nD,
      r.2.mem ((c : Thread nD τ).loc main_v1_0) = updateOf c m
      ∧ r.2.mem ((c : Thread nD τ).loc main_v1_1) = codeArr (firstOf c m)
      ∧ r.2.mem ((c : Thread nD τ).loc main_v1_2) = scaleArr (firstOf c m)
      ∧ r.2.mem ((c : Thread nD τ).loc main_v1_3) = codeArr (secondOf c m)
      ∧ r.2.mem ((c : Thread nD τ).loc main_v1_4) = scaleArr (secondOf c m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h7, h8, h9, h10, h11, h⟩ := h c
    exact ⟨h7.trans (final7 c m), h8.trans (final8 c m), h9.trans (final9 c m), h10.trans (final10 c m),
      h11.trans (final11 c m), h⟩) (Value.run_blocks m g)

end Cert.Adam.Ref

end
-- ==== Proof.Mask.lean ====
/- The mask `well_posed` at one element: where it is set, the step counter is positive, the new second moment is zero or a
   number of at least the kernel's floor, and the parameter or the old first moment is a number. -/
module

public import proofs.«01_k».proof.Proof.Model
public import proofs.«01_k».proof.On_well_posed
public import Idealize.ShloMosaic.Lib.Pointwise

@[expose] public section

set_option maxRecDepth 16384

noncomputable section

namespace Cert.Adam

open Idealize.ShloMosaic
open Cert.On_well_posed

/-- What the mask asks of one element: its step counter `n`, parameter `p`, old first moment `m`, new second moment `v`. -/
structure WellPosed (n : BitVec 32) (p m v : EReal) : Prop where
  /-- The step counter is positive. -/
  pos : 1 ≤ n.toInt
  /-- The new second moment is zero, or a number of at least the kernel's floor. -/
  moment : v = 0 ∨ lit 0x02081CEA#32 ≤ v ∧ v < ⊤
  /-- The parameter or the old first moment is a number. -/
  bounded : max p (-p) < ⊤ ∨ max m (-m) < ⊤

/-- A conjunction of bits is set where both are. -/
theorem andi_one : ∀ a b : BitVec 1, IntOp.andi a b = 1#1 → a = 1#1 ∧ b = 1#1 := by decide

/-- A disjunction of bits is set where either is. -/
theorem ori_one : ∀ a b : BitVec 1, IntOp.ori a b = 1#1 → a = 1#1 ∨ b = 1#1 := by decide

/-- A bit made of a proposition is set where the proposition holds. -/
theorem ofBool_one {q : Prop} [Decidable q] (h : BitVec.ofBool (decide q) = 1#1) : q := by
  by_contra hq
  rw [decide_eq_false hq] at h
  exact absurd h (by decide)

/-- The literal of infinity. -/
theorem lit_top : Ideal.ofBits .f32 0x7F800000#32 = ⊤ := by
  simp [Ideal.ofBits, Ideal.ieee]

/-- Widening a code does not change the integer it holds. -/
theorem int_widen (c : BitVec 8) : (FloatOps.sitofp (F := Ideal) .f32 (BitVec.signExtend 32 c) : EReal) = int c := by
  show (((BitVec.signExtend 32 c).toInt : ℝ) : EReal) = _
  rw [BitVec.toInt_signExtend_of_le (by decide)]

variable [Cert.On_well_posed.Facts]

/-- The mask of the updates at element `(r, w)`. -/
theorem mask_apply (p : FVec Ideal S10240x2048 .f32) (g : FVec Ideal S10240x2048 .bf16) (mc : IVec S10240x2048 8)
    (ms : FVec Ideal S10240x16 .f32) (vc : IVec S10240x2048 8) (vs : FVec Ideal S10240x16 .f32) (n : IVec S_ 32)
    (r : Fin 10240) (w : Fin 2048) (h : (fn (F := Ideal) p g mc ms vc vs n).1 (ix2 r w) = 1#1) :
    WellPosed (n ix0) (p (ix2 r w)) (int (mc (ix2 r w)) * ms (blockOf (ix2 r w)))
      (secondMoment (vc (ix2 r w)) (vs (blockOf (ix2 r w))) (g (ix2 r w))) := by
  have e : ∀ h, (⟨w.val / 128 * 128 + w.val % 128, h⟩ : Fin 2048) = w := fun _ => Fin.ext (Nat.div_add_mod' _ _)
  unfold fn fn_part1 fn_part2 at h
  dsimp only at h
  pointwise at h
  simp only [e, int_widen, lit_top] at h
  obtain ⟨h, hn⟩ := andi_one _ _ h
  obtain ⟨hv, hb⟩ := andi_one _ _ h
  refine ⟨?_, ?_, ?_⟩
  · have hn' : (1#32).sle (n ix0) = true := by
      by_contra hc
      rw [Bool.not_eq_true] at hc
      revert hn
      show BitVec.ofBool ((1#32).sle (n ix0)) = 1#1 → False
      rw [hc]
      decide
    exact of_decide_eq_true hn'
  · rcases ori_one _ _ hv with hv | hv
    · exact Or.inl (ofBool_one hv)
    · obtain ⟨h1, h2⟩ := andi_one _ _ hv
      exact Or.inr ⟨ofBool_one h1, ofBool_one h2⟩
  · rcases ori_one _ _ hb with hb | hb
    · exact Or.inl (ofBool_one hb)
    · exact Or.inr (ofBool_one hb)

end Cert.Adam

end
-- ==== Proof.Equation.lean ====
/- The kernel's update and the reference's are one extended real, wherever the mask is set: both are a positive real times the
   first moment, times the learning rate, plus the decay of the parameter. -/
module

public import proofs.«01_k».proof.Proof.Mask
public import Mathlib.Analysis.SpecialFunctions.Pow.Real

@[expose] public section

noncomputable section

namespace Cert.Adam

open Idealize.ShloMosaic

/-! ## The literals -/

/-- The kernel's floor under the root is a positive number. -/
theorem lit_floor : ∃ c : ℝ, 0 < c ∧ lit 0x02081CEA#32 = (c : EReal) := by
  refine ⟨8920298 * 2 ^ (-146 : ℤ), by positivity, ?_⟩
  simp [lit, Ideal.ofBits, Ideal.ieee, -EReal.coe_mul]
  try norm_num

/-- The denominator's offset is a positive number. -/
theorem lit_eps : ∃ e : ℝ, 0 < e ∧ lit 0x322BCC77#32 = (e : EReal) := by
  refine ⟨11258999 * 2 ^ (-50 : ℤ), by positivity, ?_⟩
  simp [lit, Ideal.ofBits, Ideal.ieee, -EReal.coe_mul]
  try norm_num

/-- The weight of the squared gradient is a positive number. -/
theorem lit_square : ∃ e : ℝ, 0 < e ∧ lit 0x3A83126F#32 = (e : EReal) := by
  refine ⟨8589935 * 2 ^ (-33 : ℤ), by positivity, ?_⟩
  simp [lit, Ideal.ofBits, Ideal.ieee, -EReal.coe_mul]
  try norm_num

/-- The decay of the first moment is a number. -/
theorem lit_beta1 : ∃ e : ℝ, lit 0x3F666666#32 = (e : EReal) := by
  refine ⟨15099494 * 2 ^ (-24 : ℤ), ?_⟩
  simp [lit, Ideal.ofBits, Ideal.ieee, -EReal.coe_mul]
  try norm_num

/-- The weight of the gradient is a number. -/
theorem lit_grad : ∃ e : ℝ, lit 0x3DCCCCCD#32 = (e : EReal) := by
  refine ⟨13421773 * 2 ^ (-27 : ℤ), ?_⟩
  simp [lit, Ideal.ofBits, Ideal.ieee, -EReal.coe_mul]
  try norm_num

/-- The reference's first base is nine tenths. -/
theorem base1 : Ideal.div (lit 0x41100000#32) (lit 0x41200000#32) = ((9 / 10 : ℝ) : EReal) := by
  have h9 : lit 0x41100000#32 = ((9 : ℝ) : EReal) := by
    simp [lit, Ideal.ofBits, Ideal.ieee, -EReal.coe_mul]
    try norm_num
  have h10 : lit 0x41200000#32 = ((10 : ℝ) : EReal) := by
    simp [lit, Ideal.ofBits, Ideal.ieee, -EReal.coe_mul]
    try norm_num
  rw [h9, h10, Ideal.div_coe (by norm_num), ← EReal.coe_mul]
  norm_num

/-- The reference's second base is 999 thousandths. -/
theorem base2 : Ideal.div (lit 0x4479C000#32) (lit 0x447A0000#32) = ((999 / 1000 : ℝ) : EReal) := by
  have h9 : lit 0x4479C000#32 = ((999 : ℝ) : EReal) := by
    simp [lit, Ideal.ofBits, Ideal.ieee, -EReal.coe_mul]
    try norm_num
  have h10 : lit 0x447A0000#32 = ((1000 : ℝ) : EReal) := by
    simp [lit, Ideal.ofBits, Ideal.ieee, -EReal.coe_mul]
    try norm_num
  rw [h9, h10, Ideal.div_coe (by norm_num), ← EReal.coe_mul]
  norm_num

/-! ## The bias corrections -/

/-- A power through a base-2 exponential is the power. -/
theorem two_rpow {a : ℝ} (ha : 0 < a) (x : ℝ) : Real.rpow 2 (x * (Real.log a * (Real.log 2)⁻¹)) = a ^ x := by
  show (2 : ℝ) ^ (x * (Real.log a * (Real.log 2)⁻¹)) = a ^ x
  have h2 : Real.log 2 ≠ 0 := (Real.log_pos (by norm_num)).ne'
  rw [Real.rpow_def_of_pos (by norm_num : (0 : ℝ) < 2), Real.rpow_def_of_pos ha]
  congr 1
  field_simp

/-- At a positive step the correction `1 − a^n` of a base between 0 and 1 is positive. -/
theorem correction_pos {a : ℝ} (h0 : 0 < a) (h1 : a < 1) {n : BitVec 32} (hn : 1 ≤ n.toInt) : 0 < 1 - a ^ (n.toInt : ℝ) := by
  have hx : (0 : ℝ) < (n.toInt : ℝ) := by exact_mod_cast (by omega : 0 < n.toInt)
  have := Real.rpow_lt_one h0.le h1 hx
  linarith

/-- The kernel's spelling of a correction. -/
theorem correction_exp2 {a : ℝ} (h0 : 0 < a) (n : BitVec 32) :
    (1 : EReal) - Ideal.exp2 (int n * ((Real.log a * (Real.log 2)⁻¹ : ℝ) : EReal)) = ((1 - a ^ (n.toInt : ℝ) : ℝ) : EReal) := by
  rw [int, ← EReal.coe_mul]
  show (1 : EReal) - ((Real.rpow 2 ((n.toInt : ℝ) * (Real.log a * (Real.log 2)⁻¹)) : ℝ) : EReal) = _
  rw [two_rpow h0, EReal.coe_sub, EReal.coe_one]

/-- The reference's spelling of a correction. -/
theorem correction_pow (a : ℝ) (n : BitVec 32) :
    (1 : EReal) - Ideal.pow (a : EReal) (int n) = ((1 - a ^ (n.toInt : ℝ) : ℝ) : EReal) := by
  rw [EReal.coe_sub, EReal.coe_one]
  rfl

/-- The root of a number that is not negative. -/
theorem sqrt_real {q : ℝ} (hq : 0 ≤ q) : Ideal.sqrt (q : EReal) = ((Real.sqrt q : ℝ) : EReal) := by
  rw [Ideal.sqrt_coe, if_neg (not_lt.mpr hq)]

/-! ## The second moment and its root -/

/-- Zero, or a number of at least the floor, times the reciprocal root of the larger of it and the floor, is its root. -/
theorem floored_root {v : EReal} (hv : v = 0 ∨ lit 0x02081CEA#32 ≤ v ∧ v < ⊤) :
    ∃ y : ℝ, 0 ≤ y ∧ v = (y : EReal) ∧ v * Ideal.rsqrt (max v (lit 0x02081CEA#32)) = ((Real.sqrt y : ℝ) : EReal) := by
  obtain ⟨c, hc, ec⟩ := lit_floor
  rw [ec] at hv ⊢
  rcases hv with rfl | ⟨h1, h2⟩
  · exact ⟨0, le_rfl, by simp, by simp⟩
  · induction v using EReal.rec with
    | bot => exact absurd h1 (by simp)
    | top => exact absurd h2 (by simp)
    | coe y =>
      have hy : c ≤ y := by exact_mod_cast h1
      have hy0 : 0 < y := lt_of_lt_of_le hc hy
      refine ⟨y, hy0.le, rfl, ?_⟩
      rw [max_eq_left h1, Ideal.rsqrt_coe, if_neg (not_lt.mpr hy0.le), if_neg hy0.ne', ← EReal.coe_mul]
      congr 1
      rw [← div_eq_mul_inv, Real.div_sqrt]

/-- Where the new second moment is a number, so is the gradient. -/
theorem gradient_real {code : BitVec 8} {scale g : EReal} {y : ℝ} (h : secondMoment code scale g = (y : EReal)) :
    ∃ x : ℝ, g = (x : EReal) := by
  obtain ⟨e, he, ee⟩ := lit_square
  rw [secondMoment, ee] at h
  have key : g * g ≠ ⊤ := by
    intro hg
    rw [hg, EReal.coe_mul_top_of_pos he] at h
    rcases eq_or_ne (lit 0x3F7FBE77#32 * (int code * scale)) ⊥ with hb | hb
    · rw [hb, EReal.bot_add] at h
      exact EReal.coe_ne_bot y h.symm
    · rw [EReal.add_top_of_ne_bot hb] at h
      exact EReal.coe_ne_top y h.symm
  induction g using EReal.rec with
  | bot => exact absurd EReal.bot_mul_bot key
  | top => exact absurd EReal.top_mul_top key
  | coe x => exact ⟨x, rfl⟩

/-- An extended real of finite magnitude is a number. -/
theorem real_of_magnitude {x : EReal} (h : max x (-x) < ⊤) : ∃ r : ℝ, x = (r : EReal) := by
  induction x using EReal.rec with
  | bot => exact absurd h (by simp)
  | top => exact absurd h (by simp)
  | coe r => exact ⟨r, rfl⟩

/-- With a finite old moment and a finite gradient the new first moment is a number. -/
theorem firstMoment_real {code : BitVec 8} {scale g : EReal} (h : ∃ r : ℝ, int code * scale = (r : EReal))
    (hg : ∃ x : ℝ, g = (x : EReal)) : ∃ r : ℝ, firstMoment code scale g = (r : EReal) := by
  obtain ⟨r, hr⟩ := h
  obtain ⟨x, hx⟩ := hg
  obtain ⟨e1, h1⟩ := lit_beta1
  obtain ⟨e2, h2⟩ := lit_grad
  refine ⟨e1 * r + e2 * x, ?_⟩
  rw [firstMoment, hr, hx, h1, h2, EReal.coe_add, EReal.coe_mul, EReal.coe_mul]

/-! ## The two updates -/

/-- The learning rate distributes over the step and the decay when either is a number. -/
theorem distribute (C : ℝ) (hC : 0 < C) {p m : EReal} (h : (∃ r : ℝ, p = (r : EReal)) ∨ ∃ r : ℝ, m = (r : EReal)) :
    ((-1 / 1000 * C : ℝ) : EReal) * m + ((-1 / 100000 : ℝ) : EReal) * p
      = ((-1 / 1000 : ℝ) : EReal) * ((C : EReal) * m + ((1 / 100 : ℝ) : EReal) * p) := by
  have hn : -1 / 1000 * C < 0 := by linarith
  have hl : (-1 / 1000 : ℝ) < 0 := by norm_num
  have hd : (-1 / 100000 : ℝ) < 0 := by norm_num
  have hw : (0 : ℝ) < 1 / 100 := by norm_num
  rcases h with ⟨r, rfl⟩ | ⟨r, rfl⟩
  · induction m using EReal.rec with
    | bot =>
      rw [EReal.coe_mul_bot_of_neg hn, EReal.coe_mul_bot_of_pos hC, EReal.bot_add, EReal.coe_mul_bot_of_neg hl, ← EReal.coe_mul,
        EReal.top_add_coe]
    | top =>
      rw [EReal.coe_mul_top_of_neg hn, EReal.coe_mul_top_of_pos hC, EReal.bot_add, ← EReal.coe_mul, EReal.top_add_coe,
        EReal.coe_mul_top_of_neg hl]
    | coe s =>
      simp only [← EReal.coe_mul, ← EReal.coe_add]
      congr 1
      ring
  · induction p using EReal.rec with
    | bot =>
      rw [EReal.coe_mul_bot_of_neg hd, EReal.coe_mul_bot_of_pos hw, EReal.add_bot, EReal.coe_mul_bot_of_neg hl, ← EReal.coe_mul,
        EReal.coe_add_top]
    | top =>
      rw [EReal.coe_mul_top_of_neg hd, EReal.coe_mul_top_of_pos hw, EReal.add_bot, ← EReal.coe_mul, EReal.coe_add_top,
        EReal.coe_mul_top_of_neg hl]
    | coe s =>
      simp only [← EReal.coe_mul, ← EReal.coe_add]
      congr 1
      ring

/-- Where the mask is set, the kernel's update is the reference's. -/
theorem delta_eq {n : BitVec 32} {p g : EReal} {mc vc : BitVec 8} {ms vs : EReal}
    (h : WellPosed n p (int mc * ms) (secondMoment vc vs g)) :
    kDelta n p (firstMoment mc ms g) (secondMoment vc vs g) = rDelta n p (firstMoment mc ms g) (secondMoment vc vs g) := by
  obtain ⟨y, hy, ey, er⟩ := floored_root h.moment
  obtain ⟨e, he, ee⟩ := lit_eps
  have hfin : (∃ r : ℝ, p = (r : EReal)) ∨ ∃ r : ℝ, firstMoment mc ms g = (r : EReal) :=
    h.bounded.imp real_of_magnitude fun hm => firstMoment_real (real_of_magnitude hm) (gradient_real ey)
  have hq1 := correction_pos (a := 9 / 10) (by norm_num) (by norm_num) h.pos
  have hq2 := correction_pos (a := 999 / 1000) (by norm_num) (by norm_num) h.pos
  rw [kDelta, rDelta, kStep, kEps, kRoot, base1, base2, correction_exp2 (by norm_num), correction_exp2 (by norm_num),
    correction_pow, correction_pow, sqrt_real hq2.le, ee, er, ey]
  generalize (1 : ℝ) - (9 / 10 : ℝ) ^ (n.toInt : ℝ) = q1 at hq1 ⊢
  generalize (1 : ℝ) - (999 / 1000 : ℝ) ^ (n.toInt : ℝ) = q2 at hq2 ⊢
  generalize firstMoment mc ms g = m at hfin ⊢
  have hs : 0 < Real.sqrt q2 := Real.sqrt_pos.mpr hq2
  have hr : 0 ≤ Real.sqrt y := Real.sqrt_nonneg y
  have hD : 0 < Real.sqrt y + e * Real.sqrt q2 := by positivity
  have hD' : 0 < Real.sqrt y / Real.sqrt q2 + e := by positivity
  have hC : 0 < 1 / q1 * (1 / (Real.sqrt y / Real.sqrt q2 + e)) := by positivity
  rw [Ideal.div_coe hq1.ne', Ideal.div_coe hq1.ne', Ideal.div_coe hq2.ne', ← EReal.coe_mul y, sqrt_real (by positivity),
    mul_one_div, Real.sqrt_div hy, ← EReal.coe_mul e, ← EReal.coe_add, ← EReal.coe_add, Ideal.div_coe hD.ne',
    Ideal.div_coe hD'.ne', mul_assoc m, ← EReal.coe_mul (1 / q1), mul_comm m, ← distribute _ hC hfin, ← EReal.coe_mul,
    ← EReal.coe_mul, mul_right_comm, ← EReal.coe_mul]
  congr 3
  field_simp

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_well_posed
public import proofs.«01_k».proof.Proof.Gen.KernelIdeal.Value
public import proofs.«01_k».proof.Proof.Gen.ReferenceIdeal.Value
public import proofs.«01_k».proof.Proof.Whole
public import proofs.«01_k».proof.Proof.RefWhole
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's constants are the numbers they are named for. -/
theorem preserves : Cert.preserves_Kernel_KernelIdeal :=
  ⟨IdealRules.named_const.statement Cert.KernelIdeal.κ "log2_beta1" .f32 0xBE1BA6B3#32 _ rfl,
    IdealRules.named_const.statement Cert.KernelIdeal.κ "log2_beta2" .f32 0xBABD3108#32 _ rfl,
    IdealRules.named_const.statement Cert.KernelIdeal.κ "neg_lr" .f32 0xBA83126F#32 _ rfl,
    IdealRules.named_const.statement Cert.KernelIdeal.κ "neg_lr_wd" .f32 0xB727C5AC#32 _ rfl,
    IdealRules.named_const.statement Cert.KernelIdeal.κ "inv_127" .f32 0x3C010204#32 _ rfl⟩

section Updates
attribute [local instance] Cert.On_well_posed.Gen.facts

/-- Where the mask is set the two arrays of updates agree. -/
theorem updates_eq (p : FVec Ideal S10240x2048 .f32) (g : FVec Ideal S10240x2048 .bf16) (mc : IVec S10240x2048 8)
    (ms : FVec Ideal S10240x16 .f32) (vc : IVec S10240x2048 8) (vs : FVec Ideal S10240x16 .f32) (n : IVec S_ 32)
    (i : S10240x2048.Idx) (h : (Cert.On_well_posed.fn (F := Ideal) p g mc ms vc vs n).1 i = 1#1) :
    Cert.Adam.kDeltaArr (n fun a => a.elim0) p (Cert.Adam.firstArr mc ms g) (Cert.Adam.secondArr vc vs g) i
      = Cert.Adam.rDeltaArr (n fun a => a.elim0) p (Cert.Adam.firstArr mc ms g) (Cert.Adam.secondArr vc vs g) i := by
  have e : ∀ (r : Fin 10240) (w : Fin 2048), (Cert.On_well_posed.fn (F := Ideal) p g mc ms vc vs n).1 (ix2 r w) = 1#1 →
      Cert.Adam.kDeltaArr (n fun a => a.elim0) p (Cert.Adam.firstArr mc ms g) (Cert.Adam.secondArr vc vs g) (ix2 r w)
        = Cert.Adam.rDeltaArr (n fun a => a.elim0) p (Cert.Adam.firstArr mc ms g) (Cert.Adam.secondArr vc vs g) (ix2 r w) := by
    intro r w hw
    have hn : (fun a => a.elim0 : S_.Idx) = ix0 := funext fun a => a.elim0
    rw [hn]
    exact Cert.Adam.delta_eq (Cert.Adam.mask_apply p g mc ms vc vs n r w hw)
  have hi : i = ix2 (i 0) (i 1) := eq_ix2 i
  rw [hi] at h ⊢
  exact e _ _ h

end Updates

/-- Kernel and reference compute the same five arrays, the updates where the mask is set, the rest everywhere. -/
theorem agree : Cert.algebraic_KernelIdeal_ReferenceIdeal_on_well_posed := by
  intro m g m' g' hpre hargs
  have first : ∀ c, Cert.Adam.Ref.firstOf c m' = Cert.Adam.firstOf m c := fun c => by
    obtain ⟨_, h1, h2, h3, _, _, _⟩ := hargs c
    show Cert.Adam.firstArr _ _ _ = Cert.Adam.firstArr _ _ _
    rw [h1, h2, h3]
  have second : ∀ c, Cert.Adam.Ref.secondOf c m' = Cert.Adam.secondOf m c := fun c => by
    obtain ⟨_, h1, _, _, h4, h5, _⟩ := hargs c
    show Cert.Adam.secondArr _ _ _ = Cert.Adam.secondArr _ _ _
    rw [h1, h4, h5]
  refine ⟨fun c => Cert.Adam.updateOf m c, fun c => Cert.Adam.codeArr (Cert.Adam.firstOf m c),
    fun c => Cert.Adam.scaleArr (Cert.Adam.firstOf m c), fun c => Cert.Adam.codeArr (Cert.Adam.secondOf m c),
    fun c => Cert.Adam.scaleArr (Cert.Adam.secondOf m c), ?_, ?_⟩
  · refine θ_run_mono (Cert.Adam.kernel_run m g) fun r h c => ?_
    obtain ⟨h0, h1, h2, h3, h4, hr⟩ := h c
    exact ⟨fun i _ => congrFun h0 i, fun i _ => congrFun h1 i, fun i _ => congrFun h2 i, fun i _ => congrFun h3 i,
      fun i _ => congrFun h4 i, hr⟩
  · refine θ_run_mono (Cert.Adam.Ref.reference_run m' g') fun r h c => ?_
    obtain ⟨h0, h1, h2, h3, h4, hr⟩ := h c
    rw [first c] at h1 h2
    rw [second c] at h3 h4
    refine ⟨fun i hi => ?_, fun i _ => congrFun h1 i, fun i _ => congrFun h2 i, fun i _ => congrFun h3 i,
      fun i _ => congrFun h4 i, hr⟩
    refine (congrFun h0 i).trans (Eq.trans ?_ (updates_eq _ _ _ _ _ _ _ i hi).symm)
    obtain ⟨a0, _, _, _, _, _, a6⟩ := hargs c
    show Cert.Adam.rDeltaArr (Cert.Adam.Ref.counter c m') _ (Cert.Adam.Ref.firstOf c m') (Cert.Adam.Ref.secondOf c m') i = _
    rw [first c, second c, a0, Cert.Adam.Ref.counter, a6]
    rfl

/-- The claim. -/
theorem claim : Cert.Claim := ⟨Cert.Kernel.Gen.facts, Cert.KernelIdeal.Gen.facts, Cert.ReferenceIdeal.Gen.facts, Cert.On_well_posed.Gen.facts, by
  exact ⟨fun m ρ _ => Cert.Kernel.Gen.frame m ρ, fun m ρ _ => Cert.KernelIdeal.Gen.frame m ρ, fun m ρ _ => Cert.ReferenceIdeal.Gen.frame m ρ, preserves, agree⟩⟩

end Cert.Proof

end
